-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S2x16384 : Shape := ⟨2, ![2, 16384]⟩
abbrev S1000000x16 : Shape := ⟨2, ![1000000, 16]⟩
abbrev S_ : Shape := ⟨0, ![]⟩

class Facts : Prop where
  bcast_S_S2x16384 : S_.BroadcastsInDim S2x16384 (![] : Fin 0 → Fin S2x16384.rank)
  reducesTo_S2x16384_S_d0_1 : S2x16384.ReducesTo [0, 1] S_
  h_S_ : 0 < S_.numel

variable [Facts]

def fn {F : FTy → Type} [FloatOps F] (main_arg0 : IVec S2x16384 32) (main_arg1 : FVec F S1000000x16 .f32) (main_arg2 : FVec F S1000000x16 .f32) : IVec S_ 1 :=
  let main_c : IVec S_ 32 := constantI S_ 32 0#32
  let main_v0 : IVec S2x16384 32 := broadcastInDim S2x16384 ![] bcast_S_S2x16384 main_c
  let main_v1 : IVec S2x16384 1 := cmpi .sge main_arg0 main_v0
  let main_c_0 : IVec S_ 32 := constantI S_ 32 1000000#32
  let main_v2 : IVec S2x16384 32 := broadcastInDim S2x16384 ![] bcast_S_S2x16384 main_c_0
  let main_v3 : IVec S2x16384 1 := cmpi .slt main_arg0 main_v2
  let main_v4 : IVec S2x16384 1 := andi main_v1 main_v3
  let main_c_1 : IVec S_ 1 := constantI S_ 1 1#1
  let main_v5 : IVec S_ 1 := (fun x v => Host.reduce IntOp.andi x v reducesTo_S2x16384_S_d0_1 h_S_) main_v4 main_c_1
  main_v5
-- ==== Kernel.lean ====
abbrev S2x16384 : Shape := ⟨2, ![2, 16384]⟩
abbrev S1000000x16 : Shape := ⟨2, ![1000000, 16]⟩
abbrev S1x16384 : Shape := ⟨2, ![1, 16384]⟩
abbrev S16384 : Shape := ⟨1, ![16384]⟩
abbrev S125000x128 : Shape := ⟨2, ![125000, 128]⟩
abbrev S_ : Shape := ⟨0, ![]⟩
abbrev S512 : Shape := ⟨1, ![512]⟩
abbrev S256x128 : Shape := ⟨2, ![256, 128]⟩
abbrev S256 : Shape := ⟨1, ![256]⟩
abbrev S16 : Shape := ⟨1, ![16]⟩

abbrev nBuf : Table → Nat
  | .hbm => 16
  | .local .scVector .vmem => 7
  | _ => 0

abbrev bufTy : (tb : Table) → Fin (nBuf tb) → BufTy
  | .hbm, ⟨0, _⟩ => ⟨S2x16384, .i32⟩
  | .hbm, ⟨1, _⟩ => ⟨S1000000x16, .f32⟩
  | .hbm, ⟨2, _⟩ => ⟨S1000000x16, .f32⟩
  | .hbm, ⟨3, _⟩ => ⟨S1x16384, .i32⟩
  | .hbm, ⟨4, _⟩ => ⟨S16384, .i32⟩
  | .hbm, ⟨5, _⟩ => ⟨S1x16384, .i32⟩
  | .hbm, ⟨6, _⟩ => ⟨S16384, .i32⟩
  | .hbm, ⟨7, _⟩ => ⟨S125000x128, .f32⟩
  | .hbm, ⟨8, _⟩ => ⟨S125000x128, .f32⟩
  | .hbm, ⟨9, _⟩ => ⟨S_, .i32⟩
  | .hbm, ⟨10, _⟩ => ⟨S16384, .i32⟩
  | .hbm, ⟨11, _⟩ => ⟨S16384, .i32⟩
  | .hbm, ⟨12, _⟩ => ⟨S_, .i32⟩
  | .hbm, ⟨13, _⟩ => ⟨S16384, .i32⟩
  | .hbm, ⟨14, _⟩ => ⟨S16384, .i32⟩
  | .hbm, ⟨15, _⟩ => ⟨S16384, .f32⟩
  | .local .scVector .vmem, ⟨0, _⟩ => ⟨S512, .i32⟩
  | .local .scVector .vmem, ⟨1, _⟩ => ⟨S512, .i32⟩
  | .local .scVector .vmem, ⟨2, _⟩ => ⟨S512, .i32⟩
  | .local .scVector .vmem, ⟨3, _⟩ => ⟨S512, .i32⟩
  | .local .scVector .vmem, ⟨4, _⟩ => ⟨S256x128, .f32⟩
  | .local .scVector .vmem, ⟨5, _⟩ => ⟨S256x128, .f32⟩
  | .local .scVector .vmem, ⟨6, _⟩ => ⟨S512, .f32⟩
  | _, _ => ⟨S2x16384, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 7 → Bool
  | ⟨0, _⟩ => false
  | ⟨1, _⟩ => false
  | ⟨2, _⟩ => false
  | ⟨3, _⟩ => false
  | ⟨4, _⟩ => false
  | ⟨5, _⟩ => false
  | ⟨6, _⟩ => false
  | _ => false

abbrev sig : RefSig :=
  ofTables nBuf rfl bufTy 4 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_c : Ref sig .tc := ⟨.hbm, 9, rfl⟩
abbrev main_v6 : Ref sig .tc := ⟨.hbm, 10, rfl⟩
abbrev main_v7 : Ref sig .tc := ⟨.hbm, 11, rfl⟩
abbrev main_c_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v1_scv : Ref sig .scVector := ⟨.hbm, 4, rfl⟩
abbrev main_v3_scv : Ref sig .scVector := ⟨.hbm, 6, rfl⟩
abbrev main_v7_scv : Ref sig .scVector := ⟨.hbm, 11, rfl⟩
abbrev main_v9_scv : Ref sig .scVector := ⟨.hbm, 14, rfl⟩
abbrev main_v4_scv : Ref sig .scVector := ⟨.hbm, 7, rfl⟩
abbrev main_v5_scv : Ref sig .scVector := ⟨.hbm, 8, rfl⟩
abbrev main_v10_scv : Ref sig .scVector := ⟨.hbm, 15, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![v2.toNat]
@[reducible] def k0_t1_loop : Scf.Loop 32 :=
  let c0_i32_12 : BitVec 32 := 0#32
  let c16_i32 : BitVec 32 := 16#32
  let v11 : BitVec 32 := Scalar.addi c0_i32_12 c16_i32
  let c1_i32 : BitVec 32 := 1#32
  ⟨c0_i32_12, v11, c1_i32⟩
def k0_off2 (k0_t1 : Fin k0_t1_loop.trips) : Fin 1 → Nat :=
  let c0_i32_31 : BitVec 32 := 0#32
  let c0_i32_12 : BitVec 32 := 0#32
  let c1_i32 : BitVec 32 := 1#32
  let arg18 : BitVec 32 := Scf.iv c0_i32_12 c1_i32 k0_t1
  let c16_i32_30 : BitVec 32 := 16#32
  let v21 : BitVec 32 := Scalar.muli arg18 c16_i32_30
  let v25 : BitVec 32 := Scalar.addi c0_i32_31 v21
  let v26 : Index := Scalar.indexCast v25
  ![v26.toNat]

def k0_chk1 (v24 : IVec S16 32) (v41 : IVec S16 32) : Prop :=
  (∀ a x, ((![v24, v41] : Fin 2 → IVec S16 32) a x).toNat < S256x128.size a)
theorem k0_idx1_inb : ∀ (v24 : IVec S16 32) (v41 : IVec S16 32) (k0_hw1 : k0_chk1 v24 v41), ∀ a x, ((![v24, v41] : Fin 2 → IVec S16 32) a x).toNat < S256x128.size a := fun v24 v41 k0_hw1 => k0_hw1

def k0_chk2 (v24 : IVec S16 32) (v44 : IVec S16 32) : Prop :=
  (∀ a x, ((![v24, v44] : Fin 2 → IVec S16 32) a x).toNat < S256x128.size a)
theorem k0_idx2_inb : ∀ (v24 : IVec S16 32) (v44 : IVec S16 32) (k0_hw2 : k0_chk2 v24 v44), ∀ a x, ((![v24, v44] : Fin 2 → IVec S16 32) a x).toNat < S256x128.size a := fun v24 v44 k0_hw2 => k0_hw2

def k0_chk3 (v24 : IVec S16 32) (v49 : IVec S16 32) : Prop :=
  (∀ a x, ((![v24, v49] : Fin 2 → IVec S16 32) a x).toNat < S256x128.size a)
theorem k0_idx3_inb : ∀ (v24 : IVec S16 32) (v49 : IVec S16 32) (k0_hw3 : k0_chk3 v24 v49), ∀ a x, ((![v24, v49] : Fin 2 → IVec S16 32) a x).toNat < S256x128.size a := fun v24 v49 k0_hw3 => k0_hw3

def k0_chk4 (v24 : IVec S16 32) (v52 : IVec S16 32) : Prop :=
  (∀ a x, ((![v24, v52] : Fin 2 → IVec S16 32) a x).toNat < S256x128.size a)
theorem k0_idx4_inb : ∀ (v24 : IVec S16 32) (v52 : IVec S16 32) (k0_hw4 : k0_chk4 v24 v52), ∀ a x, ((![v24, v52] : Fin 2 → IVec S16 32) a x).toNat < S256x128.size a := fun v24 v52 k0_hw4 => k0_hw4

def k0_chk5 (v24 : IVec S16 32) (v57 : IVec S16 32) : Prop :=
  (∀ a x, ((![v24, v57] : Fin 2 → IVec S16 32) a x).toNat < S256x128.size a)
theorem k0_idx5_inb : ∀ (v24 : IVec S16 32) (v57 : IVec S16 32) (k0_hw5 : k0_chk5 v24 v57), ∀ a x, ((![v24, v57] : Fin 2 → IVec S16 32) a x).toNat < S256x128.size a := fun v24 v57 k0_hw5 => k0_hw5

def k0_chk6 (v24 : IVec S16 32) (v60 : IVec S16 32) : Prop :=
  (∀ a x, ((![v24, v60] : Fin 2 → IVec S16 32) a x).toNat < S256x128.size a)
theorem k0_idx6_inb : ∀ (v24 : IVec S16 32) (v60 : IVec S16 32) (k0_hw6 : k0_chk6 v24 v60), ∀ a x, ((![v24, v60] : Fin 2 → IVec S16 32) a x).toNat < S256x128.size a := fun v24 v60 k0_hw6 => k0_hw6

def k0_chk7 (v24 : IVec S16 32) (v65 : IVec S16 32) : Prop :=
  (∀ a x, ((![v24, v65] : Fin 2 → IVec S16 32) a x).toNat < S256x128.size a)
theorem k0_idx7_inb : ∀ (v24 : IVec S16 32) (v65 : IVec S16 32) (k0_hw7 : k0_chk7 v24 v65), ∀ a x, ((![v24, v65] : Fin 2 → IVec S16 32) a x).toNat < S256x128.size a := fun v24 v65 k0_hw7 => k0_hw7

def k0_chk8 (v24 : IVec S16 32) (v68 : IVec S16 32) : Prop :=
  (∀ a x, ((![v24, v68] : Fin 2 → IVec S16 32) a x).toNat < S256x128.size a)
theorem k0_idx8_inb : ∀ (v24 : IVec S16 32) (v68 : IVec S16 32) (k0_hw8 : k0_chk8 v24 v68), ∀ a x, ((![v24, v68] : Fin 2 → IVec S16 32) a x).toNat < S256x128.size a := fun v24 v68 k0_hw8 => k0_hw8

def k0_chk9 (v24 : IVec S16 32) (v73 : IVec S16 32) : Prop :=
  (∀ a x, ((![v24, v73] : Fin 2 → IVec S16 32) a x).toNat < S256x128.size a)
theorem k0_idx9_inb : ∀ (v24 : IVec S16 32) (v73 : IVec S16 32) (k0_hw9 : k0_chk9 v24 v73), ∀ a x, ((![v24, v73] : Fin 2 → IVec S16 32) a x).toNat < S256x128.size a := fun v24 v73 k0_hw9 => k0_hw9

def k0_chk10 (v24 : IVec S16 32) (v76 : IVec S16 32) : Prop :=
  (∀ a x, ((![v24, v76] : Fin 2 → IVec S16 32) a x).toNat < S256x128.size a)
theorem k0_idx10_inb : ∀ (v24 : IVec S16 32) (v76 : IVec S16 32) (k0_hw10 : k0_chk10 v24 v76), ∀ a x, ((![v24, v76] : Fin 2 → IVec S16 32) a x).toNat < S256x128.size a := fun v24 v76 k0_hw10 => k0_hw10

def k0_chk11 (v24 : IVec S16 32) (v81 : IVec S16 32) : Prop :=
  (∀ a x, ((![v24, v81] : Fin 2 → IVec S16 32) a x).toNat < S256x128.size a)
theorem k0_idx11_inb : ∀ (v24 : IVec S16 32) (v81 : IVec S16 32) (k0_hw11 : k0_chk11 v24 v81), ∀ a x, ((![v24, v81] : Fin 2 → IVec S16 32) a x).toNat < S256x128.size a := fun v24 v81 k0_hw11 => k0_hw11

def k0_chk12 (v24 : IVec S16 32) (v84 : IVec S16 32) : Prop :=
  (∀ a x, ((![v24, v84] : Fin 2 → IVec S16 32) a x).toNat < S256x128.size a)
theorem k0_idx12_inb : ∀ (v24 : IVec S16 32) (v84 : IVec S16 32) (k0_hw12 : k0_chk12 v24 v84), ∀ a x, ((![v24, v84] : Fin 2 → IVec S16 32) a x).toNat < S256x128.size a := fun v24 v84 k0_hw12 => k0_hw12

def k0_chk13 (v24 : IVec S16 32) (v89 : IVec S16 32) : Prop :=
  (∀ a x, ((![v24, v89] : Fin 2 → IVec S16 32) a x).toNat < S256x128.size a)
theorem k0_idx13_inb : ∀ (v24 : IVec S16 32) (v89 : IVec S16 32) (k0_hw13 : k0_chk13 v24 v89), ∀ a x, ((![v24, v89] : Fin 2 → IVec S16 32) a x).toNat < S256x128.size a := fun v24 v89 k0_hw13 => k0_hw13

def k0_chk14 (v24 : IVec S16 32) (v92 : IVec S16 32) : Prop :=
  (∀ a x, ((![v24, v92] : Fin 2 → IVec S16 32) a x).toNat < S256x128.size a)
theorem k0_idx14_inb : ∀ (v24 : IVec S16 32) (v92 : IVec S16 32) (k0_hw14 : k0_chk14 v24 v92), ∀ a x, ((![v24, v92] : Fin 2 → IVec S16 32) a x).toNat < S256x128.size a := fun v24 v92 k0_hw14 => k0_hw14

def k0_chk15 (v24 : IVec S16 32) (v97 : IVec S16 32) : Prop :=
  (∀ a x, ((![v24, v97] : Fin 2 → IVec S16 32) a x).toNat < S256x128.size a)
theorem k0_idx15_inb : ∀ (v24 : IVec S16 32) (v97 : IVec S16 32) (k0_hw15 : k0_chk15 v24 v97), ∀ a x, ((![v24, v97] : Fin 2 → IVec S16 32) a x).toNat < S256x128.size a := fun v24 v97 k0_hw15 => k0_hw15

def k0_chk16 (v24 : IVec S16 32) (v100 : IVec S16 32) : Prop :=
  (∀ a x, ((![v24, v100] : Fin 2 → IVec S16 32) a x).toNat < S256x128.size a)
theorem k0_idx16_inb : ∀ (v24 : IVec S16 32) (v100 : IVec S16 32) (k0_hw16 : k0_chk16 v24 v100), ∀ a x, ((![v24, v100] : Fin 2 → IVec S16 32) a x).toNat < S256x128.size a := fun v24 v100 k0_hw16 => k0_hw16

def k0_chk17 (v24 : IVec S16 32) (v105 : IVec S16 32) : Prop :=
  (∀ a x, ((![v24, v105] : Fin 2 → IVec S16 32) a x).toNat < S256x128.size a)
theorem k0_idx17_inb : ∀ (v24 : IVec S16 32) (v105 : IVec S16 32) (k0_hw17 : k0_chk17 v24 v105), ∀ a x, ((![v24, v105] : Fin 2 → IVec S16 32) a x).toNat < S256x128.size a := fun v24 v105 k0_hw17 => k0_hw17

def k0_chk18 (v24 : IVec S16 32) (v108 : IVec S16 32) : Prop :=
  (∀ a x, ((![v24, v108] : Fin 2 → IVec S16 32) a x).toNat < S256x128.size a)
theorem k0_idx18_inb : ∀ (v24 : IVec S16 32) (v108 : IVec S16 32) (k0_hw18 : k0_chk18 v24 v108), ∀ a x, ((![v24, v108] : Fin 2 → IVec S16 32) a x).toNat < S256x128.size a := fun v24 v108 k0_hw18 => k0_hw18

def k0_chk19 (v24 : IVec S16 32) (v113 : IVec S16 32) : Prop :=
  (∀ a x, ((![v24, v113] : Fin 2 → IVec S16 32) a x).toNat < S256x128.size a)
theorem k0_idx19_inb : ∀ (v24 : IVec S16 32) (v113 : IVec S16 32) (k0_hw19 : k0_chk19 v24 v113), ∀ a x, ((![v24, v113] : Fin 2 → IVec S16 32) a x).toNat < S256x128.size a := fun v24 v113 k0_hw19 => k0_hw19

def k0_chk20 (v24 : IVec S16 32) (v116 : IVec S16 32) : Prop :=
  (∀ a x, ((![v24, v116] : Fin 2 → IVec S16 32) a x).toNat < S256x128.size a)
theorem k0_idx20_inb : ∀ (v24 : IVec S16 32) (v116 : IVec S16 32) (k0_hw20 : k0_chk20 v24 v116), ∀ a x, ((![v24, v116] : Fin 2 → IVec S16 32) a x).toNat < S256x128.size a := fun v24 v116 k0_hw20 => k0_hw20

def k0_chk21 (v24 : IVec S16 32) (v121 : IVec S16 32) : Prop :=
  (∀ a x, ((![v24, v121] : Fin 2 → IVec S16 32) a x).toNat < S256x128.size a)
theorem k0_idx21_inb : ∀ (v24 : IVec S16 32) (v121 : IVec S16 32) (k0_hw21 : k0_chk21 v24 v121), ∀ a x, ((![v24, v121] : Fin 2 → IVec S16 32) a x).toNat < S256x128.size a := fun v24 v121 k0_hw21 => k0_hw21

def k0_chk22 (v24 : IVec S16 32) (v124 : IVec S16 32) : Prop :=
  (∀ a x, ((![v24, v124] : Fin 2 → IVec S16 32) a x).toNat < S256x128.size a)
theorem k0_idx22_inb : ∀ (v24 : IVec S16 32) (v124 : IVec S16 32) (k0_hw22 : k0_chk22 v24 v124), ∀ a x, ((![v24, v124] : Fin 2 → IVec S16 32) a x).toNat < S256x128.size a := fun v24 v124 k0_hw22 => k0_hw22

def k0_chk23 (v24 : IVec S16 32) (v129 : IVec S16 32) : Prop :=
  (∀ a x, ((![v24, v129] : Fin 2 → IVec S16 32) a x).toNat < S256x128.size a)
theorem k0_idx23_inb : ∀ (v24 : IVec S16 32) (v129 : IVec S16 32) (k0_hw23 : k0_chk23 v24 v129), ∀ a x, ((![v24, v129] : Fin 2 → IVec S16 32) a x).toNat < S256x128.size a := fun v24 v129 k0_hw23 => k0_hw23

def k0_chk24 (v24 : IVec S16 32) (v132 : IVec S16 32) : Prop :=
  (∀ a x, ((![v24, v132] : Fin 2 → IVec S16 32) a x).toNat < S256x128.size a)
theorem k0_idx24_inb : ∀ (v24 : IVec S16 32) (v132 : IVec S16 32) (k0_hw24 : k0_chk24 v24 v132), ∀ a x, ((![v24, v132] : Fin 2 → IVec S16 32) a x).toNat < S256x128.size a := fun v24 v132 k0_hw24 => k0_hw24

def k0_chk25 (v24 : IVec S16 32) (v137 : IVec S16 32) : Prop :=
  (∀ a x, ((![v24, v137] : Fin 2 → IVec S16 32) a x).toNat < S256x128.size a)
theorem k0_idx25_inb : ∀ (v24 : IVec S16 32) (v137 : IVec S16 32) (k0_hw25 : k0_chk25 v24 v137), ∀ a x, ((![v24, v137] : Fin 2 → IVec S16 32) a x).toNat < S256x128.size a := fun v24 v137 k0_hw25 => k0_hw25

def k0_chk26 (v24 : IVec S16 32) (v140 : IVec S16 32) : Prop :=
  (∀ a x, ((![v24, v140] : Fin 2 → IVec S16 32) a x).toNat < S256x128.size a)
theorem k0_idx26_inb : ∀ (v24 : IVec S16 32) (v140 : IVec S16 32) (k0_hw26 : k0_chk26 v24 v140), ∀ a x, ((![v24, v140] : Fin 2 → IVec S16 32) a x).toNat < S256x128.size a := fun v24 v140 k0_hw26 => k0_hw26

def k0_chk27 (v24 : IVec S16 32) (v145 : IVec S16 32) : Prop :=
  (∀ a x, ((![v24, v145] : Fin 2 → IVec S16 32) a x).toNat < S256x128.size a)
theorem k0_idx27_inb : ∀ (v24 : IVec S16 32) (v145 : IVec S16 32) (k0_hw27 : k0_chk27 v24 v145), ∀ a x, ((![v24, v145] : Fin 2 → IVec S16 32) a x).toNat < S256x128.size a := fun v24 v145 k0_hw27 => k0_hw27

def k0_chk28 (v24 : IVec S16 32) (v148 : IVec S16 32) : Prop :=
  (∀ a x, ((![v24, v148] : Fin 2 → IVec S16 32) a x).toNat < S256x128.size a)
theorem k0_idx28_inb : ∀ (v24 : IVec S16 32) (v148 : IVec S16 32) (k0_hw28 : k0_chk28 v24 v148), ∀ a x, ((![v24, v148] : Fin 2 → IVec S16 32) a x).toNat < S256x128.size a := fun v24 v148 k0_hw28 => k0_hw28

def k0_chk29 (v24 : IVec S16 32) (v153 : IVec S16 32) : Prop :=
  (∀ a x, ((![v24, v153] : Fin 2 → IVec S16 32) a x).toNat < S256x128.size a)
theorem k0_idx29_inb : ∀ (v24 : IVec S16 32) (v153 : IVec S16 32) (k0_hw29 : k0_chk29 v24 v153), ∀ a x, ((![v24, v153] : Fin 2 → IVec S16 32) a x).toNat < S256x128.size a := fun v24 v153 k0_hw29 => k0_hw29

def k0_chk30 (v24 : IVec S16 32) (v156 : IVec S16 32) : Prop :=
  (∀ a x, ((![v24, v156] : Fin 2 → IVec S16 32) a x).toNat < S256x128.size a)
theorem k0_idx30_inb : ∀ (v24 : IVec S16 32) (v156 : IVec S16 32) (k0_hw30 : k0_chk30 v24 v156), ∀ a x, ((![v24, v156] : Fin 2 → IVec S16 32) a x).toNat < S256x128.size a := fun v24 v156 k0_hw30 => k0_hw30

def k0_chk31 (v24 : IVec S16 32) (v161 : IVec S16 32) : Prop :=
  (∀ a x, ((![v24, v161] : Fin 2 → IVec S16 32) a x).toNat < S256x128.size a)
theorem k0_idx31_inb : ∀ (v24 : IVec S16 32) (v161 : IVec S16 32) (k0_hw31 : k0_chk31 v24 v161), ∀ a x, ((![v24, v161] : Fin 2 → IVec S16 32) a x).toNat < S256x128.size a := fun v24 v161 k0_hw31 => k0_hw31

def k0_chk32 (v24 : IVec S16 32) (v164 : IVec S16 32) : Prop :=
  (∀ a x, ((![v24, v164] : Fin 2 → IVec S16 32) a x).toNat < S256x128.size a)
theorem k0_idx32_inb : ∀ (v24 : IVec S16 32) (v164 : IVec S16 32) (k0_hw32 : k0_chk32 v24 v164), ∀ a x, ((![v24, v164] : Fin 2 → IVec S16 32) a x).toNat < S256x128.size a := fun v24 v164 k0_hw32 => k0_hw32
def k0_off3 (k0_t1 : Fin k0_t1_loop.trips) : Fin 1 → Nat :=
  let c0_i32_56 : BitVec 32 := 0#32
  let c0_i32_12 : BitVec 32 := 0#32
  let c1_i32 : BitVec 32 := 1#32
  let arg18 : BitVec 32 := Scf.iv c0_i32_12 c1_i32 k0_t1
  let c16_i32_30 : BitVec 32 := 16#32
  let v21 : BitVec 32 := Scalar.muli arg18 c16_i32_30
  let v168 : BitVec 32 := Scalar.addi c0_i32_56 v21
  let v169 : Index := Scalar.indexCast v168
  ![v169.toNat]
@[reducible] def k0_t2_loop : Scf.Loop 32 :=
  let c0_i32_26 : BitVec 32 := 0#32
  let c16_i32_27 : BitVec 32 := 16#32
  let v20 : BitVec 32 := Scalar.addi c0_i32_26 c16_i32_27
  let c1_i32_28 : BitVec 32 := 1#32
  ⟨c0_i32_26, v20, c1_i32_28⟩
def k0_off4 (k0_t2 : Fin k0_t2_loop.trips) : Fin 1 → Nat :=
  let c256_i32_31 : BitVec 32 := 256#32
  let c0_i32_26 : BitVec 32 := 0#32
  let c1_i32_28 : BitVec 32 := 1#32
  let arg18 : BitVec 32 := Scf.iv c0_i32_26 c1_i32_28 k0_t2
  let c16_i32_30 : BitVec 32 := 16#32
  let v21 : BitVec 32 := Scalar.muli arg18 c16_i32_30
  let v25 : BitVec 32 := Scalar.addi c256_i32_31 v21
  let v26 : Index := Scalar.indexCast v25
  ![v26.toNat]

def k0_chk33 (v24 : IVec S16 32) (v41 : IVec S16 32) : Prop :=
  (∀ a x, ((![v24, v41] : Fin 2 → IVec S16 32) a x).toNat < S256x128.size a)
theorem k0_idx33_inb : ∀ (v24 : IVec S16 32) (v41 : IVec S16 32) (k0_hw33 : k0_chk33 v24 v41), ∀ a x, ((![v24, v41] : Fin 2 → IVec S16 32) a x).toNat < S256x128.size a := fun v24 v41 k0_hw33 => k0_hw33

def k0_chk34 (v24 : IVec S16 32) (v44 : IVec S16 32) : Prop :=
  (∀ a x, ((![v24, v44] : Fin 2 → IVec S16 32) a x).toNat < S256x128.size a)
theorem k0_idx34_inb : ∀ (v24 : IVec S16 32) (v44 : IVec S16 32) (k0_hw34 : k0_chk34 v24 v44), ∀ a x, ((![v24, v44] : Fin 2 → IVec S16 32) a x).toNat < S256x128.size a := fun v24 v44 k0_hw34 => k0_hw34

def k0_chk35 (v24 : IVec S16 32) (v49 : IVec S16 32) : Prop :=
  (∀ a x, ((![v24, v49] : Fin 2 → IVec S16 32) a x).toNat < S256x128.size a)
theorem k0_idx35_inb : ∀ (v24 : IVec S16 32) (v49 : IVec S16 32) (k0_hw35 : k0_chk35 v24 v49), ∀ a x, ((![v24, v49] : Fin 2 → IVec S16 32) a x).toNat < S256x128.size a := fun v24 v49 k0_hw35 => k0_hw35

def k0_chk36 (v24 : IVec S16 32) (v52 : IVec S16 32) : Prop :=
  (∀ a x, ((![v24, v52] : Fin 2 → IVec S16 32) a x).toNat < S256x128.size a)
theorem k0_idx36_inb : ∀ (v24 : IVec S16 32) (v52 : IVec S16 32) (k0_hw36 : k0_chk36 v24 v52), ∀ a x, ((![v24, v52] : Fin 2 → IVec S16 32) a x).toNat < S256x128.size a := fun v24 v52 k0_hw36 => k0_hw36

def k0_chk37 (v24 : IVec S16 32) (v57 : IVec S16 32) : Prop :=
  (∀ a x, ((![v24, v57] : Fin 2 → IVec S16 32) a x).toNat < S256x128.size a)
theorem k0_idx37_inb : ∀ (v24 : IVec S16 32) (v57 : IVec S16 32) (k0_hw37 : k0_chk37 v24 v57), ∀ a x, ((![v24, v57] : Fin 2 → IVec S16 32) a x).toNat < S256x128.size a := fun v24 v57 k0_hw37 => k0_hw37

def k0_chk38 (v24 : IVec S16 32) (v60 : IVec S16 32) : Prop :=
  (∀ a x, ((![v24, v60] : Fin 2 → IVec S16 32) a x).toNat < S256x128.size a)
theorem k0_idx38_inb : ∀ (v24 : IVec S16 32) (v60 : IVec S16 32) (k0_hw38 : k0_chk38 v24 v60), ∀ a x, ((![v24, v60] : Fin 2 → IVec S16 32) a x).toNat < S256x128.size a := fun v24 v60 k0_hw38 => k0_hw38

def k0_chk39 (v24 : IVec S16 32) (v65 : IVec S16 32) : Prop :=
  (∀ a x, ((![v24, v65] : Fin 2 → IVec S16 32) a x).toNat < S256x128.size a)
theorem k0_idx39_inb : ∀ (v24 : IVec S16 32) (v65 : IVec S16 32) (k0_hw39 : k0_chk39 v24 v65), ∀ a x, ((![v24, v65] : Fin 2 → IVec S16 32) a x).toNat < S256x128.size a := fun v24 v65 k0_hw39 => k0_hw39

def k0_chk40 (v24 : IVec S16 32) (v68 : IVec S16 32) : Prop :=
  (∀ a x, ((![v24, v68] : Fin 2 → IVec S16 32) a x).toNat < S256x128.size a)
theorem k0_idx40_inb : ∀ (v24 : IVec S16 32) (v68 : IVec S16 32) (k0_hw40 : k0_chk40 v24 v68), ∀ a x, ((![v24, v68] : Fin 2 → IVec S16 32) a x).toNat < S256x128.size a := fun v24 v68 k0_hw40 => k0_hw40

def k0_chk41 (v24 : IVec S16 32) (v73 : IVec S16 32) : Prop :=
  (∀ a x, ((![v24, v73] : Fin 2 → IVec S16 32) a x).toNat < S256x128.size a)
theorem k0_idx41_inb : ∀ (v24 : IVec S16 32) (v73 : IVec S16 32) (k0_hw41 : k0_chk41 v24 v73), ∀ a x, ((![v24, v73] : Fin 2 → IVec S16 32) a x).toNat < S256x128.size a := fun v24 v73 k0_hw41 => k0_hw41

def k0_chk42 (v24 : IVec S16 32) (v76 : IVec S16 32) : Prop :=
  (∀ a x, ((![v24, v76] : Fin 2 → IVec S16 32) a x).toNat < S256x128.size a)
theorem k0_idx42_inb : ∀ (v24 : IVec S16 32) (v76 : IVec S16 32) (k0_hw42 : k0_chk42 v24 v76), ∀ a x, ((![v24, v76] : Fin 2 → IVec S16 32) a x).toNat < S256x128.size a := fun v24 v76 k0_hw42 => k0_hw42

def k0_chk43 (v24 : IVec S16 32) (v81 : IVec S16 32) : Prop :=
  (∀ a x, ((![v24, v81] : Fin 2 → IVec S16 32) a x).toNat < S256x128.size a)
theorem k0_idx43_inb : ∀ (v24 : IVec S16 32) (v81 : IVec S16 32) (k0_hw43 : k0_chk43 v24 v81), ∀ a x, ((![v24, v81] : Fin 2 → IVec S16 32) a x).toNat < S256x128.size a := fun v24 v81 k0_hw43 => k0_hw43

def k0_chk44 (v24 : IVec S16 32) (v84 : IVec S16 32) : Prop :=
  (∀ a x, ((![v24, v84] : Fin 2 → IVec S16 32) a x).toNat < S256x128.size a)
theorem k0_idx44_inb : ∀ (v24 : IVec S16 32) (v84 : IVec S16 32) (k0_hw44 : k0_chk44 v24 v84), ∀ a x, ((![v24, v84] : Fin 2 → IVec S16 32) a x).toNat < S256x128.size a := fun v24 v84 k0_hw44 => k0_hw44

def k0_chk45 (v24 : IVec S16 32) (v89 : IVec S16 32) : Prop :=
  (∀ a x, ((![v24, v89] : Fin 2 → IVec S16 32) a x).toNat < S256x128.size a)
theorem k0_idx45_inb : ∀ (v24 : IVec S16 32) (v89 : IVec S16 32) (k0_hw45 : k0_chk45 v24 v89), ∀ a x, ((![v24, v89] : Fin 2 → IVec S16 32) a x).toNat < S256x128.size a := fun v24 v89 k0_hw45 => k0_hw45

def k0_chk46 (v24 : IVec S16 32) (v92 : IVec S16 32) : Prop :=
  (∀ a x, ((![v24, v92] : Fin 2 → IVec S16 32) a x).toNat < S256x128.size a)
theorem k0_idx46_inb : ∀ (v24 : IVec S16 32) (v92 : IVec S16 32) (k0_hw46 : k0_chk46 v24 v92), ∀ a x, ((![v24, v92] : Fin 2 → IVec S16 32) a x).toNat < S256x128.size a := fun v24 v92 k0_hw46 => k0_hw46

def k0_chk47 (v24 : IVec S16 32) (v97 : IVec S16 32) : Prop :=
  (∀ a x, ((![v24, v97] : Fin 2 → IVec S16 32) a x).toNat < S256x128.size a)
theorem k0_idx47_inb : ∀ (v24 : IVec S16 32) (v97 : IVec S16 32) (k0_hw47 : k0_chk47 v24 v97), ∀ a x, ((![v24, v97] : Fin 2 → IVec S16 32) a x).toNat < S256x128.size a := fun v24 v97 k0_hw47 => k0_hw47

def k0_chk48 (v24 : IVec S16 32) (v100 : IVec S16 32) : Prop :=
  (∀ a x, ((![v24, v100] : Fin 2 → IVec S16 32) a x).toNat < S256x128.size a)
theorem k0_idx48_inb : ∀ (v24 : IVec S16 32) (v100 : IVec S16 32) (k0_hw48 : k0_chk48 v24 v100), ∀ a x, ((![v24, v100] : Fin 2 → IVec S16 32) a x).toNat < S256x128.size a := fun v24 v100 k0_hw48 => k0_hw48

def k0_chk49 (v24 : IVec S16 32) (v105 : IVec S16 32) : Prop :=
  (∀ a x, ((![v24, v105] : Fin 2 → IVec S16 32) a x).toNat < S256x128.size a)
theorem k0_idx49_inb : ∀ (v24 : IVec S16 32) (v105 : IVec S16 32) (k0_hw49 : k0_chk49 v24 v105), ∀ a x, ((![v24, v105] : Fin 2 → IVec S16 32) a x).toNat < S256x128.size a := fun v24 v105 k0_hw49 => k0_hw49

def k0_chk50 (v24 : IVec S16 32) (v108 : IVec S16 32) : Prop :=
  (∀ a x, ((![v24, v108] : Fin 2 → IVec S16 32) a x).toNat < S256x128.size a)
theorem k0_idx50_inb : ∀ (v24 : IVec S16 32) (v108 : IVec S16 32) (k0_hw50 : k0_chk50 v24 v108), ∀ a x, ((![v24, v108] : Fin 2 → IVec S16 32) a x).toNat < S256x128.size a := fun v24 v108 k0_hw50 => k0_hw50

def k0_chk51 (v24 : IVec S16 32) (v113 : IVec S16 32) : Prop :=
  (∀ a x, ((![v24, v113] : Fin 2 → IVec S16 32) a x).toNat < S256x128.size a)
theorem k0_idx51_inb : ∀ (v24 : IVec S16 32) (v113 : IVec S16 32) (k0_hw51 : k0_chk51 v24 v113), ∀ a x, ((![v24, v113] : Fin 2 → IVec S16 32) a x).toNat < S256x128.size a := fun v24 v113 k0_hw51 => k0_hw51

def k0_chk52 (v24 : IVec S16 32) (v116 : IVec S16 32) : Prop :=
  (∀ a x, ((![v24, v116] : Fin 2 → IVec S16 32) a x).toNat < S256x128.size a)
theorem k0_idx52_inb : ∀ (v24 : IVec S16 32) (v116 : IVec S16 32) (k0_hw52 : k0_chk52 v24 v116), ∀ a x, ((![v24, v116] : Fin 2 → IVec S16 32) a x).toNat < S256x128.size a := fun v24 v116 k0_hw52 => k0_hw52

def k0_chk53 (v24 : IVec S16 32) (v121 : IVec S16 32) : Prop :=
  (∀ a x, ((![v24, v121] : Fin 2 → IVec S16 32) a x).toNat < S256x128.size a)
theorem k0_idx53_inb : ∀ (v24 : IVec S16 32) (v121 : IVec S16 32) (k0_hw53 : k0_chk53 v24 v121), ∀ a x, ((![v24, v121] : Fin 2 → IVec S16 32) a x).toNat < S256x128.size a := fun v24 v121 k0_hw53 => k0_hw53

def k0_chk54 (v24 : IVec S16 32) (v124 : IVec S16 32) : Prop :=
  (∀ a x, ((![v24, v124] : Fin 2 → IVec S16 32) a x).toNat < S256x128.size a)
theorem k0_idx54_inb : ∀ (v24 : IVec S16 32) (v124 : IVec S16 32) (k0_hw54 : k0_chk54 v24 v124), ∀ a x, ((![v24, v124] : Fin 2 → IVec S16 32) a x).toNat < S256x128.size a := fun v24 v124 k0_hw54 => k0_hw54

def k0_chk55 (v24 : IVec S16 32) (v129 : IVec S16 32) : Prop :=
  (∀ a x, ((![v24, v129] : Fin 2 → IVec S16 32) a x).toNat < S256x128.size a)
theorem k0_idx55_inb : ∀ (v24 : IVec S16 32) (v129 : IVec S16 32) (k0_hw55 : k0_chk55 v24 v129), ∀ a x, ((![v24, v129] : Fin 2 → IVec S16 32) a x).toNat < S256x128.size a := fun v24 v129 k0_hw55 => k0_hw55

def k0_chk56 (v24 : IVec S16 32) (v132 : IVec S16 32) : Prop :=
  (∀ a x, ((![v24, v132] : Fin 2 → IVec S16 32) a x).toNat < S256x128.size a)
theorem k0_idx56_inb : ∀ (v24 : IVec S16 32) (v132 : IVec S16 32) (k0_hw56 : k0_chk56 v24 v132), ∀ a x, ((![v24, v132] : Fin 2 → IVec S16 32) a x).toNat < S256x128.size a := fun v24 v132 k0_hw56 => k0_hw56

def k0_chk57 (v24 : IVec S16 32) (v137 : IVec S16 32) : Prop :=
  (∀ a x, ((![v24, v137] : Fin 2 → IVec S16 32) a x).toNat < S256x128.size a)
theorem k0_idx57_inb : ∀ (v24 : IVec S16 32) (v137 : IVec S16 32) (k0_hw57 : k0_chk57 v24 v137), ∀ a x, ((![v24, v137] : Fin 2 → IVec S16 32) a x).toNat < S256x128.size a := fun v24 v137 k0_hw57 => k0_hw57

def k0_chk58 (v24 : IVec S16 32) (v140 : IVec S16 32) : Prop :=
  (∀ a x, ((![v24, v140] : Fin 2 → IVec S16 32) a x).toNat < S256x128.size a)
theorem k0_idx58_inb : ∀ (v24 : IVec S16 32) (v140 : IVec S16 32) (k0_hw58 : k0_chk58 v24 v140), ∀ a x, ((![v24, v140] : Fin 2 → IVec S16 32) a x).toNat < S256x128.size a := fun v24 v140 k0_hw58 => k0_hw58

def k0_chk59 (v24 : IVec S16 32) (v145 : IVec S16 32) : Prop :=
  (∀ a x, ((![v24, v145] : Fin 2 → IVec S16 32) a x).toNat < S256x128.size a)
theorem k0_idx59_inb : ∀ (v24 : IVec S16 32) (v145 : IVec S16 32) (k0_hw59 : k0_chk59 v24 v145), ∀ a x, ((![v24, v145] : Fin 2 → IVec S16 32) a x).toNat < S256x128.size a := fun v24 v145 k0_hw59 => k0_hw59

def k0_chk60 (v24 : IVec S16 32) (v148 : IVec S16 32) : Prop :=
  (∀ a x, ((![v24, v148] : Fin 2 → IVec S16 32) a x).toNat < S256x128.size a)
theorem k0_idx60_inb : ∀ (v24 : IVec S16 32) (v148 : IVec S16 32) (k0_hw60 : k0_chk60 v24 v148), ∀ a x, ((![v24, v148] : Fin 2 → IVec S16 32) a x).toNat < S256x128.size a := fun v24 v148 k0_hw60 => k0_hw60

def k0_chk61 (v24 : IVec S16 32) (v153 : IVec S16 32) : Prop :=
  (∀ a x, ((![v24, v153] : Fin 2 → IVec S16 32) a x).toNat < S256x128.size a)
theorem k0_idx61_inb : ∀ (v24 : IVec S16 32) (v153 : IVec S16 32) (k0_hw61 : k0_chk61 v24 v153), ∀ a x, ((![v24, v153] : Fin 2 → IVec S16 32) a x).toNat < S256x128.size a := fun v24 v153 k0_hw61 => k0_hw61

def k0_chk62 (v24 : IVec S16 32) (v156 : IVec S16 32) : Prop :=
  (∀ a x, ((![v24, v156] : Fin 2 → IVec S16 32) a x).toNat < S256x128.size a)
theorem k0_idx62_inb : ∀ (v24 : IVec S16 32) (v156 : IVec S16 32) (k0_hw62 : k0_chk62 v24 v156), ∀ a x, ((![v24, v156] : Fin 2 → IVec S16 32) a x).toNat < S256x128.size a := fun v24 v156 k0_hw62 => k0_hw62

def k0_chk63 (v24 : IVec S16 32) (v161 : IVec S16 32) : Prop :=
  (∀ a x, ((![v24, v161] : Fin 2 → IVec S16 32) a x).toNat < S256x128.size a)
theorem k0_idx63_inb : ∀ (v24 : IVec S16 32) (v161 : IVec S16 32) (k0_hw63 : k0_chk63 v24 v161), ∀ a x, ((![v24, v161] : Fin 2 → IVec S16 32) a x).toNat < S256x128.size a := fun v24 v161 k0_hw63 => k0_hw63

def k0_chk64 (v24 : IVec S16 32) (v164 : IVec S16 32) : Prop :=
  (∀ a x, ((![v24, v164] : Fin 2 → IVec S16 32) a x).toNat < S256x128.size a)
theorem k0_idx64_inb : ∀ (v24 : IVec S16 32) (v164 : IVec S16 32) (k0_hw64 : k0_chk64 v24 v164), ∀ a x, ((![v24, v164] : Fin 2 → IVec S16 32) a x).toNat < S256x128.size a := fun v24 v164 k0_hw64 => k0_hw64
def k0_off5 (k0_t2 : Fin k0_t2_loop.trips) : Fin 1 → Nat :=
  let c256_i32_56 : BitVec 32 := 256#32
  let c0_i32_26 : BitVec 32 := 0#32
  let c1_i32_28 : BitVec 32 := 1#32
  let arg18 : BitVec 32 := Scf.iv c0_i32_26 c1_i32_28 k0_t2
  let c16_i32_30 : BitVec 32 := 16#32
  let v21 : BitVec 32 := Scalar.muli arg18 c16_i32_30
  let v168 : BitVec 32 := Scalar.addi c256_i32_56 v21
  let v169 : Index := Scalar.indexCast v168
  ![v169.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S2x16384 : Shape := ⟨2, ![2, 16384]⟩
abbrev S1000000x16 : Shape := ⟨2, ![1000000, 16]⟩
abbrev S1x16384 : Shape := ⟨2, ![1, 16384]⟩
abbrev S16384 : Shape := ⟨1, ![16384]⟩
abbrev S_ : Shape := ⟨0, ![]⟩
abbrev S16384x1 : Shape := ⟨2, ![16384, 1]⟩
abbrev S1 : Shape := ⟨1, ![1]⟩
abbrev S1x1 : Shape := ⟨2, ![1, 1]⟩
abbrev S16384x16 : Shape := ⟨2, ![16384, 16]⟩

abbrev nBuf : Space → Nat
  | .hbm => 56
  | .vmem => 0
  | .smem => 0
  | _ => 0

abbrev bufTy : (tb : Table) → Fin (tcTables nBuf tb) → BufTy
  | .hbm, ⟨0, _⟩ => ⟨S2x16384, .i32⟩
  | .hbm, ⟨1, _⟩ => ⟨S1000000x16, .f32⟩
  | .hbm, ⟨2, _⟩ => ⟨S1000000x16, .f32⟩
  | .hbm, ⟨3, _⟩ => ⟨S1x16384, .i32⟩
  | .hbm, ⟨4, _⟩ => ⟨S16384, .i32⟩
  | .hbm, ⟨5, _⟩ => ⟨S_, .i32⟩
  | .hbm, ⟨6, _⟩ => ⟨S16384, .i32⟩
  | .hbm, ⟨7, _⟩ => ⟨S16384, .i1⟩
  | .hbm, ⟨8, _⟩ => ⟨S_, .i32⟩
  | .hbm, ⟨9, _⟩ => ⟨S16384, .i32⟩
  | .hbm, ⟨10, _⟩ => ⟨S16384, .i32⟩
  | .hbm, ⟨11, _⟩ => ⟨S16384, .i32⟩
  | .hbm, ⟨12, _⟩ => ⟨S16384x1, .i32⟩
  | .hbm, ⟨13, _⟩ => ⟨S1, .i32⟩
  | .hbm, ⟨14, _⟩ => ⟨S_, .i32⟩
  | .hbm, ⟨15, _⟩ => ⟨S16384x1, .i32⟩
  | .hbm, ⟨16, _⟩ => ⟨S16384x1, .i1⟩
  | .hbm, ⟨17, _⟩ => ⟨S1x1, .i32⟩
  | .hbm, ⟨18, _⟩ => ⟨S16384x1, .i32⟩
  | .hbm, ⟨19, _⟩ => ⟨S16384x1, .i1⟩
  | .hbm, ⟨20, _⟩ => ⟨S16384x1, .i1⟩
  | .hbm, ⟨21, _⟩ => ⟨S_, .i1⟩
  | .hbm, ⟨22, _⟩ => ⟨S16384, .i1⟩
  | .hbm, ⟨23, _⟩ => ⟨S16384x16, .f32⟩
  | .hbm, ⟨24, _⟩ => ⟨S16384x16, .i1⟩
  | .hbm, ⟨25, _⟩ => ⟨S_, .f32⟩
  | .hbm, ⟨26, _⟩ => ⟨S16384x16, .f32⟩
  | .hbm, ⟨27, _⟩ => ⟨S16384x16, .f32⟩
  | .hbm, ⟨28, _⟩ => ⟨S1x16384, .i32⟩
  | .hbm, ⟨29, _⟩ => ⟨S16384, .i32⟩
  | .hbm, ⟨30, _⟩ => ⟨S_, .i32⟩
  | .hbm, ⟨31, _⟩ => ⟨S16384, .i32⟩
  | .hbm, ⟨32, _⟩ => ⟨S16384, .i1⟩
  | .hbm, ⟨33, _⟩ => ⟨S_, .i32⟩
  | .hbm, ⟨34, _⟩ => ⟨S16384, .i32⟩
  | .hbm, ⟨35, _⟩ => ⟨S16384, .i32⟩
  | .hbm, ⟨36, _⟩ => ⟨S16384, .i32⟩
  | .hbm, ⟨37, _⟩ => ⟨S16384x1, .i32⟩
  | .hbm, ⟨38, _⟩ => ⟨S1, .i32⟩
  | .hbm, ⟨39, _⟩ => ⟨S_, .i32⟩
  | .hbm, ⟨40, _⟩ => ⟨S16384x1, .i32⟩
  | .hbm, ⟨41, _⟩ => ⟨S16384x1, .i1⟩
  | .hbm, ⟨42, _⟩ => ⟨S1x1, .i32⟩
  | .hbm, ⟨43, _⟩ => ⟨S16384x1, .i32⟩
  | .hbm, ⟨44, _⟩ => ⟨S16384x1, .i1⟩
  | .hbm, ⟨45, _⟩ => ⟨S16384x1, .i1⟩
  | .hbm, ⟨46, _⟩ => ⟨S_, .i1⟩
  | .hbm, ⟨47, _⟩ => ⟨S16384, .i1⟩
  | .hbm, ⟨48, _⟩ => ⟨S16384x16, .f32⟩
  | .hbm, ⟨49, _⟩ => ⟨S16384x16, .i1⟩
  | .hbm, ⟨50, _⟩ => ⟨S_, .f32⟩
  | .hbm, ⟨51, _⟩ => ⟨S16384x16, .f32⟩
  | .hbm, ⟨52, _⟩ => ⟨S16384x16, .f32⟩
  | .hbm, ⟨53, _⟩ => ⟨S16384x16, .f32⟩
  | .hbm, ⟨54, _⟩ => ⟨S_, .f32⟩
  | .hbm, ⟨55, _⟩ => ⟨S16384, .f32⟩
  | _, _ => ⟨S2x16384, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_c : Ref sig .tc := ⟨.hbm, 5, rfl⟩
abbrev main_call0_v0 : Ref sig .tc := ⟨.hbm, 6, rfl⟩
abbrev main_call0_v1 : Ref sig .tc := ⟨.hbm, 7, rfl⟩
abbrev main_call0_c_0 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_c_1 : Ref sig .tc := ⟨.hbm, 13, rfl⟩
abbrev main_call0_c_2 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_3 : Ref sig .tc := ⟨.hbm, 21, rfl⟩
abbrev main_call0_v12 : Ref sig .tc := ⟨.hbm, 22, rfl⟩
abbrev main_call0_v13 : Ref sig .tc := ⟨.hbm, 23, rfl⟩
abbrev main_call0_v14 : Ref sig .tc := ⟨.hbm, 24, rfl⟩
abbrev main_call0_cst : Ref sig .tc := ⟨.hbm, 25, rfl⟩
abbrev main_call0_v15 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_call1_c : Ref sig .tc := ⟨.hbm, 30, rfl⟩
abbrev main_call1_v0 : Ref sig .tc := ⟨.hbm, 31, rfl⟩
abbrev main_call1_v1 : Ref sig .tc := ⟨.hbm, 32, rfl⟩
abbrev main_call1_c_0 : Ref sig .tc := ⟨.hbm, 33, rfl⟩
abbrev main_call1_v2 : Ref sig .tc := ⟨.hbm, 34, rfl⟩
abbrev main_call1_v3 : Ref sig .tc := ⟨.hbm, 35, rfl⟩
abbrev main_call1_v4 : Ref sig .tc := ⟨.hbm, 36, rfl⟩
abbrev main_call1_v5 : Ref sig .tc := ⟨.hbm, 37, rfl⟩
abbrev main_call1_c_1 : Ref sig .tc := ⟨.hbm, 38, rfl⟩
abbrev main_call1_c_2 : Ref sig .tc := ⟨.hbm, 39, rfl⟩
abbrev main_call1_v6 : Ref sig .tc := ⟨.hbm, 40, rfl⟩
abbrev main_call1_v7 : Ref sig .tc := ⟨.hbm, 41, rfl⟩
abbrev main_call1_v8 : Ref sig .tc := ⟨.hbm, 42, rfl⟩
abbrev main_call1_v9 : Ref sig .tc := ⟨.hbm, 43, rfl⟩
abbrev main_call1_v10 : Ref sig .tc := ⟨.hbm, 44, rfl⟩
abbrev main_call1_v11 : Ref sig .tc := ⟨.hbm, 45, rfl⟩
abbrev main_call1_c_3 : Ref sig .tc := ⟨.hbm, 46, rfl⟩
abbrev main_call1_v12 : Ref sig .tc := ⟨.hbm, 47, rfl⟩
abbrev main_call1_v13 : Ref sig .tc := ⟨.hbm, 48, rfl⟩
abbrev main_call1_v14 : Ref sig .tc := ⟨.hbm, 49, rfl⟩
abbrev main_call1_cst : Ref sig .tc := ⟨.hbm, 50, rfl⟩
abbrev main_call1_v15 : Ref sig .tc := ⟨.hbm, 51, rfl⟩
abbrev main_v5 : Ref sig .tc := ⟨.hbm, 52, rfl⟩
abbrev main_v6 : Ref sig .tc := ⟨.hbm, 53, rfl⟩
abbrev main_cst : Ref sig .tc := ⟨.hbm, 54, rfl⟩
abbrev main_v7 : Ref sig .tc := ⟨.hbm, 55, rfl⟩

abbrev nD : Nat := 1
abbrev τ : Topo := Topo.v7x

variable {F : FTy → Type} [FloatOps F]
-- ==== Proof.Setup.lean ====
/-
  The names the proof of the lookup kernel uses throughout: the program as the launch theorem sees it, the resource
  algebra, and the buffers, as the launch names them and as a tile names them.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

noncomputable section

namespace Cert.Proof.Lookup

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds and the transfers' counters -/

abbrev UH : Type := URounds (GSem nD τ sig) ℕ
abbrev UU : Type := UH × Counters

abbrev EH : Emb UH (MT nD τ sig (HIx 1) (Elt F) ℕ UU ℕ) := embL

/-! ## The buffers as the host names them -/

abbrev arg0Loc (d : Dev nD) : Loc nD τ sig := (SparseCore.T d).loc main_arg0
abbrev arg1Loc (d : Dev nD) : Loc nD τ sig := (SparseCore.T d).loc main_arg1
abbrev arg2Loc (d : Dev nD) : Loc nD τ sig := (SparseCore.T d).loc main_arg2
abbrev idsALoc (d : Dev nD) : Loc nD τ sig := (SparseCore.T d).loc main_v1
abbrev idsBLoc (d : Dev nD) : Loc nD τ sig := (SparseCore.T d).loc main_v3
abbrev rowsALoc (d : Dev nD) : Loc nD τ sig := (SparseCore.T d).loc main_v7
abbrev rowsBLoc (d : Dev nD) : Loc nD τ sig := (SparseCore.T d).loc main_v9
abbrev tabALoc (d : Dev nD) : Loc nD τ sig := (SparseCore.T d).loc main_v4
abbrev tabBLoc (d : Dev nD) : Loc nD τ sig := (SparseCore.T d).loc main_v5
abbrev outLoc (d : Dev nD) : Loc nD τ sig := (SparseCore.T d).loc main_v10

/-! ## The buffers as a tile names them -/

/-- The first ids, whole. -/
abbrev idsA : Memref sig .scVector .hbm S16384 .i32 := Memref.whole main_v1_scv
/-- The second ids, whole. -/
abbrev idsB : Memref sig .scVector .hbm S16384 .i32 := Memref.whole main_v3_scv
/-- The rows the first ids name in the table of 128 columns. -/
abbrev rowsA : Memref sig .scVector .hbm S16384 .i32 := Memref.whole main_v7_scv
/-- The rows the second ids name. -/
abbrev rowsB : Memref sig .scVector .hbm S16384 .i32 := Memref.whole main_v9_scv
/-- The first table, eight embeddings a row. -/
abbrev tabA : Memref sig .scVector .hbm S125000x128 .f32 := Memref.whole main_v4_scv
/-- The second table. -/
abbrev tabB : Memref sig .scVector .hbm S125000x128 .f32 := Memref.whole main_v5_scv
/-- The result. -/
abbrev outM : Memref sig .scVector .hbm S16384 .f32 := Memref.whole main_v10_scv
/-- A tile's block of the first ids. -/
abbrev iA : Memref sig .scVector .vmem S512 .i32 := Memref.whole cc0_scratch0
/-- A tile's block of the second ids. -/
abbrev iB : Memref sig .scVector .vmem S512 .i32 := Memref.whole cc0_scratch1
/-- A tile's block of the first rows. -/
abbrev rA : Memref sig .scVector .vmem S512 .i32 := Memref.whole cc0_scratch2
/-- A tile's block of the second rows. -/
abbrev rB : Memref sig .scVector .vmem S512 .i32 := Memref.whole cc0_scratch3
/-- The rows of the first table fetched for a half of the block. -/
abbrev bufA : Memref sig .scVector .vmem S256x128 .f32 := Memref.whole cc0_scratch4
/-- The rows of the second table fetched. -/
abbrev bufB : Memref sig .scVector .vmem S256x128 .f32 := Memref.whole cc0_scratch5
/-- A tile's block of the result. -/
abbrev acc : Memref sig .scVector .vmem S512 .f32 := Memref.whole cc0_scratch6

end Cert.Proof.Lookup
-- ==== Proof.Trip.lean ====
/-
  One trip of the kernel's loops: sixteen lanes, sixteen columns. The sixteen pairs of indexed loads are one recursive
  program over the list of columns, so that the run is proved once, by induction.
-/
module

public import proofs.«01_k».proof.Proof.Setup

@[expose] public section

set_option maxRecDepth 16384

noncomputable section

namespace Cert.Proof.Lookup

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

/-- One checked indexed load out of the first table's fetched rows. -/
def loadA (L : grid0.Coords) (row col : IVec S16 32) :
    Prog (TpuEff nD τ sig (Elt F) Λ₀ (.scVector ((L 0).castLE hcore0) ((L 1).castLE hsub0))) (Vec F S16 .f32) := do
  have h : k0_chk1 row col := (← Prog.lift (TpuEff.assume (k0_chk1 row col) (k0_chk1.dec row col))).down
  SparseCore.vectorLoadIdx bufA ![row, col] (k0_idx1_inb row col h) (View.loads_vmem h_S256x128)

/-- One checked indexed load out of the second table's fetched rows. -/
def loadB (L : grid0.Coords) (row col : IVec S16 32) :
    Prog (TpuEff nD τ sig (Elt F) Λ₀ (.scVector ((L 0).castLE hcore0) ((L 1).castLE hsub0))) (Vec F S16 .f32) := do
  have h : k0_chk1 row col := (← Prog.lift (TpuEff.assume (k0_chk1 row col) (k0_chk1.dec row col))).down
  SparseCore.vectorLoadIdx bufB ![row, col] (k0_idx1_inb row col h) (View.loads_vmem h_S256x128)

/-- For each column word of the list: load the two elements the lanes name, multiply them, add the product. -/
def pairSteps (L : grid0.Coords) (row oa ob : IVec S16 32) : List (BitVec 32) → Vec F S16 .f32 →
    Prog (TpuEff nD τ sig (Elt F) Λ₀ (.scVector ((L 0).castLE hcore0) ((L 1).castLE hsub0))) (Vec F S16 .f32)
  | [], v => pure v
  | w :: ws, v => do
    let x ← loadA L row (addi oa (broadcast S16 w))
    let y ← loadB L row (addi ob (broadcast S16 w))
    pairSteps L row oa ob ws (addf (φ := .f32) v (mulf (φ := .f32) x y))

/-- The sixteen columns of an embedding. -/
def columns : List (BitVec 32) :=
  [0#32, 1#32, 2#32, 3#32, 4#32, 5#32, 6#32, 7#32, 8#32, 9#32, 10#32, 11#32, 12#32, 13#32, 14#32, 15#32]

/-- A trip: the sixteen ids of either list at `lo`, the sixteen columns, the sums stored at `st`. -/
def trip (L : grid0.Coords) (lo st : Fin 1 → ℕ) (hlo : ∀ a, lo a + S16.size a ≤ S512.size a) (hst : ∀ a, st a + S16.size a ≤ S512.size a)
    (row : IVec S16 32) : Prog (TpuEff nD τ sig (Elt F) Λ₀ (.scVector ((L 0).castLE hcore0) ((L 1).castLE hsub0))) Unit := do
  let a : Vec F S16 .i32 ← Prog.lift (.load iA (Rect.unit (s := S512) lo S16.size hlo).toLoadRect (View.loadsAt_vmem h_S16))
  let b : Vec F S16 .i32 ← Prog.lift (.load iB (Rect.unit (s := S512) lo S16.size hlo).toLoadRect (View.loadsAt_vmem h_S16))
  let v ← pairSteps L row (k0_pay16 a) (k0_pay17 b) columns (broadcast S16 (Scalar.ofBits .f32 0x00000000#32))
  let _dead : Vec F S16 .f32 ← Prog.lift (.load acc (Rect.unit (s := S512) st S16.size hst).toLoadRect (View.loadsAt_vmem h_S16))
  Prog.lift (.store acc (Rect.unit (s := S512) st S16.size hst) v Finset.univ (View.stores_vmem_bits_univ h_S16 rfl) (.inl rfl))
  pure ⟨⟩

/-- The first loop's part 1: the two loads of ids, columns 0 and 1, the first table's element at column 2. -/
theorem part1_eq (L : grid0.Coords) (c₀ c₁ : BitVec 32) (t : Fin k0_t1_loop.trips) :
    k0_part1 (F := F) L idsA (Memref.isWhole_whole _) idsB (Memref.isWhole_whole _) rowsA (Memref.isWhole_whole _)
    rowsB (Memref.isWhole_whole _) tabA (Memref.isWhole_whole _) tabB (Memref.isWhole_whole _) outM (Memref.isWhole_whole _)
    iA (Memref.isWhole_whole _) iB (Memref.isWhole_whole _) rA (Memref.isWhole_whole _) rB (Memref.isWhole_whole _)
    bufA (Memref.isWhole_whole _) bufB (Memref.isWhole_whole _) acc (Memref.isWhole_whole _)
    cc0_scratch7 cc0_scratch8 cc0_scoped0 cc0_scoped1 cc0_scoped2 cc0_scoped3 cc0_scoped4 c₀ c₁ t
      = (do
        let a : Vec F S16 .i32 ← Prog.lift (.load iA (Rect.unit (s := S512) (k0_off2 t) S16.size (k0_off2_inb t)).toLoadRect (View.loadsAt_vmem h_S16))
        let b : Vec F S16 .i32 ← Prog.lift (.load iB (Rect.unit (s := S512) (k0_off2 t) S16.size (k0_off2_inb t)).toLoadRect (View.loadsAt_vmem h_S16))
        let v ← pairSteps L (k0_pay15 c₀ c₁ t) (k0_pay16 a) (k0_pay17 b) [0#32, 1#32] (broadcast S16 (Scalar.ofBits .f32 0x00000000#32))
        let x ← loadA L (k0_pay15 c₀ c₁ t) (addi (k0_pay16 a) (broadcast S16 2#32))
        pure ⟨Scalar.muli (Scf.iv c₀ c₁ t) 16#32, k0_pay15 c₀ c₁ t, k0_pay16 a, k0_pay17 b, v, x, addi (k0_pay17 b) (broadcast S16 2#32)⟩) := by
  rw [k0_part1_eq_skeleton]; unfold k0_part1_skel; rfl

/-- Part 2: columns 2 to 6, the first table's element at column 7. -/
theorem part2_eq (L : grid0.Coords) (row oa ob : IVec S16 32) (v : FVec F S16 .f32) (x : Vec F S16 .f32) (col : IVec S16 32) :
    k0_part2 (F := F) L idsA (Memref.isWhole_whole _) idsB (Memref.isWhole_whole _) rowsA (Memref.isWhole_whole _)
    rowsB (Memref.isWhole_whole _) tabA (Memref.isWhole_whole _) tabB (Memref.isWhole_whole _) outM (Memref.isWhole_whole _)
    iA (Memref.isWhole_whole _) iB (Memref.isWhole_whole _) rA (Memref.isWhole_whole _) rB (Memref.isWhole_whole _)
    bufA (Memref.isWhole_whole _) bufB (Memref.isWhole_whole _) acc (Memref.isWhole_whole _)
    cc0_scratch7 cc0_scratch8 cc0_scoped0 cc0_scoped1 cc0_scoped2 cc0_scoped3 cc0_scoped4 row oa ob v x col
      = (do
        let y ← loadB L row col
        let v' ← pairSteps L row oa ob [3#32, 4#32, 5#32, 6#32] (addf (φ := .f32) v (mulf (φ := .f32) x y))
        let x' ← loadA L row (addi oa (broadcast S16 7#32))
        pure ⟨v', x', addi ob (broadcast S16 7#32)⟩) := by
  rw [k0_part2_eq_skeleton]; unfold k0_part2_skel; rfl

/-- Part 3: columns 7 to 11, the first table's element at column 12. -/
theorem part3_eq (L : grid0.Coords) (row oa ob : IVec S16 32) (v : FVec F S16 .f32) (x : Vec F S16 .f32) (col : IVec S16 32) :
    k0_part3 (F := F) L idsA (Memref.isWhole_whole _) idsB (Memref.isWhole_whole _) rowsA (Memref.isWhole_whole _)
    rowsB (Memref.isWhole_whole _) tabA (Memref.isWhole_whole _) tabB (Memref.isWhole_whole _) outM (Memref.isWhole_whole _)
    iA (Memref.isWhole_whole _) iB (Memref.isWhole_whole _) rA (Memref.isWhole_whole _) rB (Memref.isWhole_whole _)
    bufA (Memref.isWhole_whole _) bufB (Memref.isWhole_whole _) acc (Memref.isWhole_whole _)
    cc0_scratch7 cc0_scratch8 cc0_scoped0 cc0_scoped1 cc0_scoped2 cc0_scoped3 cc0_scoped4 row oa ob v x col
      = (do
        let y ← loadB L row col
        let v' ← pairSteps L row oa ob [8#32, 9#32, 10#32, 11#32] (addf (φ := .f32) v (mulf (φ := .f32) x y))
        let x' ← loadA L row (addi oa (broadcast S16 12#32))
        pure ⟨v', x', addi ob (broadcast S16 12#32)⟩) := by
  rw [k0_part3_eq_skeleton]; unfold k0_part3_skel; rfl

/-- The second loop's part 1. -/
theorem part4_eq (L : grid0.Coords) (c₀ c₁ : BitVec 32) (t : Fin k0_t2_loop.trips) :
    k0_part4 (F := F) L idsA (Memref.isWhole_whole _) idsB (Memref.isWhole_whole _) rowsA (Memref.isWhole_whole _)
    rowsB (Memref.isWhole_whole _) tabA (Memref.isWhole_whole _) tabB (Memref.isWhole_whole _) outM (Memref.isWhole_whole _)
    iA (Memref.isWhole_whole _) iB (Memref.isWhole_whole _) rA (Memref.isWhole_whole _) rB (Memref.isWhole_whole _)
    bufA (Memref.isWhole_whole _) bufB (Memref.isWhole_whole _) acc (Memref.isWhole_whole _)
    cc0_scratch7 cc0_scratch8 cc0_scoped0 cc0_scoped1 cc0_scoped2 cc0_scoped3 cc0_scoped4 c₀ c₁ t
      = (do
        let a : Vec F S16 .i32 ← Prog.lift (.load iA (Rect.unit (s := S512) (k0_off4 t) S16.size (k0_off4_inb t)).toLoadRect (View.loadsAt_vmem h_S16))
        let b : Vec F S16 .i32 ← Prog.lift (.load iB (Rect.unit (s := S512) (k0_off4 t) S16.size (k0_off4_inb t)).toLoadRect (View.loadsAt_vmem h_S16))
        let v ← pairSteps L (k0_pay47 c₀ c₁ t) (k0_pay16 a) (k0_pay17 b) [0#32, 1#32] (broadcast S16 (Scalar.ofBits .f32 0x00000000#32))
        let x ← loadA L (k0_pay47 c₀ c₁ t) (addi (k0_pay16 a) (broadcast S16 2#32))
        pure ⟨Scalar.muli (Scf.iv c₀ c₁ t) 16#32, k0_pay47 c₀ c₁ t, k0_pay16 a, k0_pay17 b, v, x, addi (k0_pay17 b) (broadcast S16 2#32)⟩) := by
  rw [k0_part4_eq_skeleton]; unfold k0_part4_skel; rfl

set_option maxHeartbeats 1000000 in -- two long programs are compared
/-- The second loop's part 2 is the first loop's. -/
theorem part5_eq_part2 : k0_part5 (F := F) = k0_part2 (F := F) := by
  rw [k0_part5_eq_skeleton, k0_part2_eq_skeleton]; rfl

set_option maxHeartbeats 1000000 in -- two long programs are compared
/-- The second loop's part 3 is the first loop's. -/
theorem part6_eq_part3 : k0_part6 (F := F) = k0_part3 (F := F) := by
  rw [k0_part6_eq_skeleton, k0_part3_eq_skeleton]; rfl

/-- The first loop's body is the trip. -/
theorem t1_body_eq (L : grid0.Coords) (t : Fin k0_t1_loop.trips) (u : Unit) :
    k0_t1_body (F := F) L idsA (Memref.isWhole_whole _) idsB (Memref.isWhole_whole _) rowsA (Memref.isWhole_whole _)
    rowsB (Memref.isWhole_whole _) tabA (Memref.isWhole_whole _) tabB (Memref.isWhole_whole _) outM (Memref.isWhole_whole _)
    iA (Memref.isWhole_whole _) iB (Memref.isWhole_whole _) rA (Memref.isWhole_whole _) rB (Memref.isWhole_whole _)
    bufA (Memref.isWhole_whole _) bufB (Memref.isWhole_whole _) acc (Memref.isWhole_whole _)
    cc0_scratch7 cc0_scratch8 cc0_scoped0 cc0_scoped1 cc0_scoped2 cc0_scoped3 cc0_scoped4 0#32 1#32 t u
      = trip L (k0_off2 t) (k0_off3 t) (k0_off2_inb t) (k0_off3_inb t) (k0_pay15 0#32 1#32 t) := by
  unfold k0_t1_body trip
  simp only [part1_eq, part2_eq, part3_eq, columns, pairSteps, Prog.bind_assoc, pure_bind]
  rfl

/-- The second loop's body is the trip. -/
theorem t2_body_eq (L : grid0.Coords) (t : Fin k0_t2_loop.trips) (u : Unit) :
    k0_t2_body (F := F) L idsA (Memref.isWhole_whole _) idsB (Memref.isWhole_whole _) rowsA (Memref.isWhole_whole _)
    rowsB (Memref.isWhole_whole _) tabA (Memref.isWhole_whole _) tabB (Memref.isWhole_whole _) outM (Memref.isWhole_whole _)
    iA (Memref.isWhole_whole _) iB (Memref.isWhole_whole _) rA (Memref.isWhole_whole _) rB (Memref.isWhole_whole _)
    bufA (Memref.isWhole_whole _) bufB (Memref.isWhole_whole _) acc (Memref.isWhole_whole _)
    cc0_scratch7 cc0_scratch8 cc0_scoped0 cc0_scoped1 cc0_scoped2 cc0_scoped3 cc0_scoped4 t u
      = trip L (k0_off4 t) (k0_off5 t) (k0_off4_inb t) (k0_off5_inb t) (k0_pay47 0#32 1#32 t) := by
  unfold k0_t2_body trip
  simp only [part4_eq, part5_eq_part2, part6_eq_part3, part2_eq, part3_eq, columns, pairSteps, Prog.bind_assoc, pure_bind]
  rfl

end Cert.Proof.Lookup
-- ==== Proof.Spec.lean ====
/-
  What the lookup kernel computes, as plain functions of the tables, the ids and the rows: for every pair of ids the sum
  over sixteen columns of the products of the two tables' elements, in the order of the columns, from zero.
-/
module

public import proofs.«01_k».proof.Proof.Trip

@[expose] public section

set_option maxRecDepth 16384

noncomputable section

namespace Cert.Proof.Lookup

open Cert.KernelIdeal Cert.KernelIdeal.Gen

open Idealize.ShloMosaic

variable {F : FTy → Type} [FloatOps F]

/-! ## Indices from numbers -/

/-- The element of a tile's fetched rows at row `r` and column `c`. -/
def bufIx (r c : ℕ) : S256x128.Idx
  | 0 => ⟨r % 256, Nat.mod_lt _ (by decide)⟩
  | 1 => ⟨c % 128, Nat.mod_lt _ (by decide)⟩

/-- The element of a table at row `r` and column `c`. -/
def tabIx (r c : ℕ) : S125000x128.Idx
  | 0 => ⟨r % 125000, Nat.mod_lt _ (by decide)⟩
  | 1 => ⟨c % 128, Nat.mod_lt _ (by decide)⟩

/-- Position `n` of a tile's block. -/
def tileIx (n : ℕ) : S512.Idx
  | 0 => ⟨n % 512, Nat.mod_lt _ (by decide)⟩

/-! ## The value of a trip -/

/-- The sum over the sixteen columns, in their order, of the products, from zero. -/
def sumPairs (x y : BitVec 32 → F .f32) : F .f32 :=
  columns.foldl (fun v w => FloatOps.addf v (FloatOps.mulf (x w) (y w))) (Scalar.ofBits .f32 0x00000000#32)

/-- The elements the lanes name in the fetched rows. -/
def loadAt (g : S256x128.Idx → F .f32) (row col : IVec S16 32) : Vec F S16 .f32 := fun x => g (bufIx (row x).toNat (col x).toNat)

/-- The sums after the columns of the list, from `v`. -/
def pairVal (gA gB : S256x128.Idx → F .f32) (row oa ob : IVec S16 32) : List (BitVec 32) → Vec F S16 .f32 → Vec F S16 .f32
  | [], v => v
  | w :: ws, v => pairVal gA gB row oa ob ws
      (addf (φ := .f32) v (mulf (φ := .f32) (loadAt gA row (addi oa (broadcast S16 w))) (loadAt gB row (addi ob (broadcast S16 w)))))

/-- The first column of an id's embedding in its row of 128. -/
def firstCol (i : BitVec 32) : ℕ := i.toNat % 8 * 16

/-- The value of a pair of ids: the columns of the two embeddings multiplied and summed. -/
def pairAt (A B : S125000x128.Idx → F .f32) (ia ib ra rb : BitVec 32) : F .f32 :=
  sumPairs (fun w => A (tabIx ra.toNat (firstCol ia + w.toNat))) (fun w => B (tabIx rb.toNat (firstCol ib + w.toNat)))

/-! ## The lanes' rows and columns -/

theorem firstCol_le (i : BitVec 32) : firstCol i ≤ 112 := by unfold firstCol; omega

theorem mem_columns {w : BitVec 32} (h : w ∈ columns) : w.toNat < 16 := by
  simp only [columns, List.mem_cons, List.not_mem_nil, or_false] at h
  rcases h with h | h | h | h | h | h | h | h | h | h | h | h | h | h | h | h <;> subst h <;> decide

/-- The low three bits of an id times sixteen. -/
theorem low_mul (i : BitVec 32) : ((i &&& 7#32) * 16#32).toNat = firstCol i := by
  have h : (i &&& 7#32).toNat = i.toNat % 8 := by
    rw [BitVec.toNat_and]; exact Nat.and_two_pow_sub_one_eq_mod i.toNat 3
  rw [BitVec.toNat_mul, h]; unfold firstCol
  show i.toNat % 8 * 16 % 2 ^ 32 = _
  omega

theorem pay16_toNat (a : Vec F S16 .i32) (x : S16.Idx) : (k0_pay16 (F := F) a x).toNat = firstCol (a x) := low_mul (a x)
theorem pay17_toNat (a : Vec F S16 .i32) (x : S16.Idx) : (k0_pay17 (F := F) a x).toNat = firstCol (a x) := low_mul (a x)

/-- The column a lane reads at column word `w`. -/
theorem col_toNat {o : IVec S16 32} {x : S16.Idx} {i w : BitVec 32} (ho : (o x).toNat = firstCol i) (hw : w ∈ columns) :
    (addi o (broadcast S16 w) x).toNat = firstCol i + w.toNat := by
  have h1 := firstCol_le i
  have h2 := mem_columns hw
  show (o x + w).toNat = _
  rw [BitVec.toNat_add, ho]; omega

/-- The check of a lane's row and column. -/
theorem chk_of {row o : IVec S16 32} {i : S16.Idx → BitVec 32} {w : BitVec 32} (hrow : ∀ x, (row x).toNat < 256)
    (ho : ∀ x, (o x).toNat = firstCol (i x)) (hw : w ∈ columns) : k0_chk1 row (addi o (broadcast S16 w)) := by
  intro a x
  match a with
  | 0 => exact hrow x
  | 1 =>
    show (addi o (broadcast S16 w) x).toNat < 128
    rw [col_toNat (ho x) hw]
    have h1 := firstCol_le (i x)
    have h2 := mem_columns hw
    omega

/-- An indexed load in range reads the elements the lanes name. -/
theorem loadIdx_eq (g : S256x128.Idx → F .f32) (row col : IVec S16 32) (h : k0_chk1 row col) :
    loadIdx (e := .f32) g ![row, col] h = loadAt g row col := by
  funext x
  unfold loadAt
  show g (idxAt ![row, col] h x) = _
  congr 1; funext a
  match a with
  | 0 => exact Fin.ext (Nat.mod_eq_of_lt (h 0 x)).symm
  | 1 => exact Fin.ext (Nat.mod_eq_of_lt (h 1 x)).symm

/-- The sums at a lane. -/
theorem pairVal_apply (gA gB : S256x128.Idx → F .f32) (row oa ob : IVec S16 32) (x : S16.Idx) :
    ∀ (ws : List (BitVec 32)) (v : Vec F S16 .f32), pairVal gA gB row oa ob ws v x
      = ws.foldl (fun v w => FloatOps.addf v (FloatOps.mulf (gA (bufIx (row x).toNat (addi oa (broadcast S16 w) x).toNat))
          (gB (bufIx (row x).toNat (addi ob (broadcast S16 w) x).toNat)))) (v x)
  | [], v => rfl
  | w :: ws, v => by rw [pairVal, pairVal_apply gA gB row oa ob x ws]; rfl

/-- A fold depends on its step at the list's members only. -/
theorem foldl_congr_mem {α β : Type} {f g : β → α → β} : ∀ (l : List α) (b : β), (∀ b, ∀ a ∈ l, f b a = g b a) → l.foldl f b = l.foldl g b
  | [], _, _ => rfl
  | a :: l, b, h => by
    rw [List.foldl_cons, List.foldl_cons, h b a List.mem_cons_self]
    exact foldl_congr_mem l _ fun b a' ha => h b a' (List.mem_cons_of_mem _ ha)

/-- The value of a trip at a lane: its pair's, when the fetched rows are the tables' rows at the lane's two row numbers. -/
theorem pairVal_columns (A B : S125000x128.Idx → F .f32) (gA gB : S256x128.Idx → F .f32) (row oa ob : IVec S16 32) (x : S16.Idx)
    (ia ib ra rb : BitVec 32) (hoa : (oa x).toNat = firstCol ia) (hob : (ob x).toNat = firstCol ib)
    (hA : ∀ c, gA (bufIx (row x).toNat c) = A (tabIx ra.toNat c)) (hB : ∀ c, gB (bufIx (row x).toNat c) = B (tabIx rb.toNat c)) :
    pairVal gA gB row oa ob columns (broadcast S16 (Scalar.ofBits .f32 0x00000000#32)) x = pairAt A B ia ib ra rb := by
  rw [pairVal_apply]
  unfold pairAt sumPairs
  refine foldl_congr_mem _ _ fun v w hw => ?_
  rw [hA, hB, col_toNat hoa hw, col_toNat hob hw]

end Cert.Proof.Lookup
-- ==== Proof.TripRun.lean ====
/-
  The run of one trip: the ids, the fetched rows and the block of the result held, the sums stored.
-/
module

public import proofs.«01_k».proof.Proof.Spec

@[expose] public section

set_option maxRecDepth 16384

noncomputable section

namespace Cert.Proof.Lookup

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- The SparseCore of a pair of coordinates. -/
abbrev cV (L : grid0.Coords) : Fin τ.nSC := (L 0).castLE hcore0
/-- The vector subcore of a pair of coordinates. -/
abbrev jV (L : grid0.Coords) : Fin τ.nSub := (L 1).castLE hsub0
/-- The tile of a pair of coordinates. -/
abbrev thr (d : Dev nD) (L : grid0.Coords) : Thread nD τ := V d (cV L) (jV L)

variable (d : Dev nD) (L : grid0.Coords)

/-- The fetched rows of the two tables, held. -/
abbrev bufsHeld (gA gB : S256x128.Idx → F .f32) : sProp 𝕄 :=
  iprop((bufA.view.loc (thr d L) ↦{fullShare} (gA : Buf (Elt F) (bufA.view.loc (thr d L))))
    ∗ bufB.view.loc (thr d L) ↦{fullShare} (gB : Buf (Elt F) (bufB.view.loc (thr d L))))

/-- The pairs of indexed loads over a list of columns: the sums after them. -/
theorem wp_pairSteps (gA gB : S256x128.Idx → F .f32) {row oa ob : IVec S16 32} {ia ib : S16.Idx → BitVec 32}
    (hrow : ∀ x, (row x).toNat < 256) (hoa : ∀ x, (oa x).toNat = firstCol (ia x)) (hob : ∀ x, (ob x).toNat = firstCol (ib x))
    {α : Type} {Q : α → sProp 𝕄}
    (k : Vec F S16 .f32 → Prog (TpuEff nD τ sig (Elt F) Λ₀ (.scVector (cV L) (jV L))) α) :
    ∀ (ws : List (BitVec 32)) (_ : ∀ w ∈ ws, w ∈ columns) (v : Vec F S16 .f32),
      bufsHeld d L gA gB
        ⊢ iprop((bufsHeld d L gA gB -∗ wp frame (wpE (defs₀ (F := F)) 𝒱₀ (thr d L) none) Set.univ (k (pairVal gA gB row oa ob ws v)) Q)
            -∗ wp frame (wpE (defs₀ (F := F)) 𝒱₀ (thr d L) none) Set.univ (pairSteps L row oa ob ws v >>= k) Q)
  | [], _, v => by
    simp only [pairSteps, pairVal, pure_bind]
    iintro H; iintro Hk
    iapply Hk; iexact H
  | w :: ws, hws, v => by
    have hw := hws w List.mem_cons_self
    have ih := wp_pairSteps gA gB hrow hoa hob (Q := Q) k ws (fun w' h => hws w' (List.mem_cons_of_mem _ h))
    simp only [pairSteps, loadA, loadB, Prog.lift, Prog.bind_assoc, Prog.bind_op, Prog.bind_ret]
    iintro ⟨HA, HB⟩; iintro Hk
    rw [wp_assume_of _ _ _ _ (chk_of hrow hoa hw)]
    iapply (SparseCore.wp_vectorLoadIdx 𝒱₀ (thr d L) none Set.univ (base := bufA) (S := Finset.univ) (q := fullShare) (Finset.subset_univ _)) $$ HA; iintro HA
    rw [wp_assume_of _ _ _ _ (chk_of hrow hob hw)]
    iapply (SparseCore.wp_vectorLoadIdx 𝒱₀ (thr d L) none Set.univ (base := bufB) (S := Finset.univ) (q := fullShare) (Finset.subset_univ _)) $$ HB; iintro HB
    have eA : loadIdx ((bufA.access (.whole S256x128)).read (Elt F) gA) ![row, addi oa (broadcast S16 w)] (chk_of hrow hoa hw)
        = loadAt gA row (addi oa (broadcast S16 w)) := by
      have hr : ((bufA.access (.whole S256x128)).read (Elt F) gA : S256x128.Idx → F .f32) = gA :=
        Memref.read_access_whole (Elt F) cc0_scratch4 gA
      exact (congrArg (fun g : S256x128.Idx → F .f32 => loadIdx (e := .f32) g ![row, addi oa (broadcast S16 w)]
        (chk_of hrow hoa hw)) hr).trans (loadIdx_eq gA _ _ _)
    have eB : loadIdx ((bufB.access (.whole S256x128)).read (Elt F) gB) ![row, addi ob (broadcast S16 w)] (chk_of hrow hob hw)
        = loadAt gB row (addi ob (broadcast S16 w)) := by
      have hr : ((bufB.access (.whole S256x128)).read (Elt F) gB : S256x128.Idx → F .f32) = gB :=
        Memref.read_access_whole (Elt F) cc0_scratch5 gB
      exact (congrArg (fun g : S256x128.Idx → F .f32 => loadIdx (e := .f32) g ![row, addi ob (broadcast S16 w)]
        (chk_of hrow hob hw)) hr).trans (loadIdx_eq gB _ _ _)
    rw [eA, eB]
    iapply (ih _) $$ [HA HB]
    · isplitl [HA]; · iexact HA
      iexact HB
    iexact Hk

/-- The five buffers of a trip, held. -/
abbrev tripHeld (ia ib : S512.Idx → BitVec 32) (gA gB : S256x128.Idx → F .f32) (f : S512.Idx → F .f32) : sProp 𝕄 :=
  iprop((iA.view.loc (thr d L) ↦{fullShare} (ia : Buf (Elt F) (iA.view.loc (thr d L))))
    ∗ (iB.view.loc (thr d L) ↦{fullShare} (ib : Buf (Elt F) (iB.view.loc (thr d L))))
    ∗ bufsHeld d L gA gB
    ∗ acc.view.loc (thr d L) ↦{fullShare} (f : Buf (Elt F) (acc.view.loc (thr d L))))

/-- Sixteen elements of a block from position `n`. -/
def lanes {α : Type} (n : ℕ) (f : S512.Idx → α) : S16.Idx → α := fun x => f (tileIx (n + (x 0).val))

theorem emb_window {lo : Fin 1 → ℕ} (hlo : ∀ a, lo a + S16.size a ≤ S512.size a) (x : S16.Idx) :
    (Rect.unit (s := S512) lo S16.size hlo).emb x = tileIx (lo 0 + (x 0).val) := by
  funext a
  have h := hlo 0
  have hx : (x 0).val < 16 := (x 0).isLt
  have h' : lo 0 + 16 ≤ 512 := h
  match a with
  | 0 =>
    refine Fin.ext ?_
    show lo 0 + 1 * (x 0).val = (lo 0 + (x 0).val) % 512
    omega

theorem readA_window {lo : Fin 1 → ℕ} (hlo : ∀ a, lo a + S16.size a ≤ S512.size a) (f : S512.Idx → BitVec 32) :
    iA.view.readAt (Elt F) (Rect.unit (s := S512) lo S16.size hlo).toLoadRect f = lanes (lo 0) f := by
  funext x
  exact congrArg f (emb_window hlo x)

theorem readB_window {lo : Fin 1 → ℕ} (hlo : ∀ a, lo a + S16.size a ≤ S512.size a) (f : S512.Idx → BitVec 32) :
    iB.view.readAt (Elt F) (Rect.unit (s := S512) lo S16.size hlo).toLoadRect f = lanes (lo 0) f := by
  funext x
  exact congrArg f (emb_window hlo x)

/-- What a store of sixteen lanes leaves in the block: `T` below the store's end, when the lanes hold `T` and the block
    held it below the store. -/
theorem store_window {st : Fin 1 → ℕ} (hst : ∀ a, st a + S16.size a ≤ S512.size a) (f T : S512.Idx → F .f32) (v : Vec F S16 .f32)
    (hv : ∀ x, v x = T (tileIx (st 0 + (x 0).val))) (hf : ∀ j : S512.Idx, (j 0).val < st 0 → f j = T j) (j : S512.Idx)
    (hj : (j 0).val < st 0 + 16) :
    (acc.access (Rect.unit (s := S512) st S16.size hst)).write (Elt F) f v Finset.univ j = T j := by
  by_cases h : (j 0).val < st 0
  · rw [View.write_of_not_mem, hf j h]
    intro hm
    obtain ⟨x, -, hx⟩ := Finset.mem_map.mp hm
    have : (Rect.unit (s := S512) st S16.size hst).emb x = j := hx
    have e := congrArg (fun i : S512.Idx => (i 0).val) this
    have : st 0 + 1 * (x 0).val = (j 0).val := e
    omega
  · have hx : (j 0).val - st 0 < 16 := by omega
    let x : S16.Idx := fun | 0 => ⟨(j 0).val - st 0, hx⟩
    have hj512 : (j 0).val < 512 := (j 0).isLt
    have e : tileIx (st 0 + (x 0).val) = j := by
      funext a
      match a with
      | 0 => refine Fin.ext ?_; show (st 0 + ((j 0).val - st 0)) % 512 = (j 0).val; omega
    have e' : (acc.access (Rect.unit (s := S512) st S16.size hst)).emb x = j := (emb_window hst x).trans e
    rw [← e', View.write_emb_of_mem _ _ (Finset.mem_univ x), cast_eq, hv x, e', e]

/-- The block of the result holds `T` below position `n`. -/
abbrev tripInv (ia ib : S512.Idx → BitVec 32) (gA gB : S256x128.Idx → F .f32) (T : S512.Idx → F .f32) (n : ℕ) : sProp 𝕄 :=
  iprop(∃ f, tripHeld d L ia ib gA gB f ∗ ⌜∀ j : S512.Idx, (j 0).val < n → f j = T j⌝)

/-- A trip at position `n` carries the result sixteen further. -/
theorem wp_trip (ia ib : S512.Idx → BitVec 32) (gA gB : S256x128.Idx → F .f32) (T : S512.Idx → F .f32) (n : ℕ)
    {lo st : Fin 1 → ℕ} (hn : lo 0 = n) (hm : st 0 = n) (hlo : ∀ a, lo a + S16.size a ≤ S512.size a)
    (hst : ∀ a, st a + S16.size a ≤ S512.size a) {row : IVec S16 32} (hrow : ∀ x, (row x).toNat < 256)
    (hT : ∀ x, pairVal gA gB row (k0_pay16 (F := F) (lanes n ia)) (k0_pay17 (F := F) (lanes n ib)) columns
      (broadcast S16 (Scalar.ofBits .f32 0x00000000#32)) x = T (tileIx (n + (x 0).val))) :
    tripInv d L ia ib gA gB T n
      ⊢ wp frame (wpE (defs₀ (F := F)) 𝒱₀ (thr d L) none) Set.univ (trip L lo st hlo hst row)
          fun _ => tripInv d L ia ib gA gB T (n + 16) := by
  subst hn
  unfold trip
  simp only [Prog.lift, Prog.bind_op, Prog.bind_ret, Prog.pure_eq_ret]
  iintro ⟨%f, ⟨Hia, Hib, Hbufs, Hacc⟩, %hf⟩
  iapply (wp_load 𝒱₀ (thr d L) none Set.univ (m := iA) (S := Finset.univ) (Finset.subset_univ _)) $$ Hia; iintro Hia
  iapply (wp_load 𝒱₀ (thr d L) none Set.univ (m := iB) (S := Finset.univ) (Finset.subset_univ _)) $$ Hib; iintro Hib
  rw [readA_window, readB_window]
  iapply (wp_pairSteps d L gA gB hrow (pay16_toNat (F := F) _) (pay17_toNat (F := F) _) _ columns (fun _ h => h) _) $$ Hbufs; iintro Hbufs
  iapply (wp_load 𝒱₀ (thr d L) none Set.univ (m := acc) (S := Finset.univ) (Finset.subset_univ _)) $$ Hacc; iintro Hacc
  iapply (wp_store 𝒱₀ (thr d L) none Set.univ (m := acc) (r := Rect.unit (s := S512) st S16.size hst) (Mk := Finset.univ) (S := Finset.univ) (Finset.subset_univ _)) $$ Hacc; iintro Hacc
  rw [wp_ret]; imodintro
  iexists _
  isplitl [Hia Hib Hbufs Hacc]
  · isplitl [Hia]; · iexact Hia
    isplitl [Hib]; · iexact Hib
    isplitl [Hbufs]; · iexact Hbufs
    iexact Hacc
  ipureintro
  intro j hj
  exact store_window hst f T _ (fun x => by rw [hm]; exact hT x) (by rw [hm]; exact hf) j (by rw [hm]; exact hj)

end Cert.Proof.Lookup
-- ==== Proof.Fetch.lean ====
/-
  The fetch of a half block's rows: 256 rows of a table, those a list names, copied into a tile's buffer by one indexed
  copy. What the buffer holds afterwards, and the copy's start for either table.
-/
module

public import proofs.«01_k».proof.Proof.TripRun

@[expose] public section

set_option maxRecDepth 16384

noncomputable section

namespace Cert.Proof.Lookup

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- The rows of table `T` that positions `o` to `o + 255` of the list name. -/
def fetched (T : S125000x128.Idx → F .f32) (rows : S512.Idx → BitVec 32) (o : ℕ) : S256x128.Idx → F .f32 :=
  fun x => T (tabIx (rows (tileIx (o + (x 0).val))).toNat (x 1).val)

/-- The window of the list at an offset. -/
abbrev listRect (off : Fin 1 → ℕ) (inb : ∀ a, off a + S256.size a ≤ S512.size a) : Rect S512 := Rect.unit (s := S512) off S256.size inb
abbrev listA (off : Fin 1 → ℕ) (inb : ∀ a, off a + S256.size a ≤ S512.size a) : Memref sig .scVector .vmem S256 .i32 :=
  rA.slice (listRect off inb) (fun _ => rfl)
abbrev listB (off : Fin 1 → ℕ) (inb : ∀ a, off a + S256.size a ≤ S512.size a) : Memref sig .scVector .vmem S256 .i32 :=
  rB.slice (listRect off inb) (fun _ => rfl)
/-- A table as the copies slice it: all of it. -/
abbrev allA : Memref sig .scVector .hbm S125000x128 .f32 :=
  tabA.slice (Rect.unit (s := S125000x128) ![0, 0] S125000x128.size inb_S125000x128_S125000x128_0_0) (fun _ => rfl)
abbrev allB : Memref sig .scVector .hbm S125000x128 .f32 :=
  tabB.slice (Rect.unit (s := S125000x128) ![0, 0] S125000x128.size inb_S125000x128_S125000x128_0_0) (fun _ => rfl)

theorem emb_all (x : S125000x128.Idx) :
    (Rect.unit (s := S125000x128) ![0, 0] S125000x128.size inb_S125000x128_S125000x128_0_0).emb x = x := by
  funext a
  match a with
  | 0 => refine Fin.ext ?_; show 0 + 1 * (x 0).val = (x 0).val; omega
  | 1 => refine Fin.ext ?_; show 0 + 1 * (x 1).val = (x 1).val; omega

theorem emb_list {off : Fin 1 → ℕ} (inb : ∀ a, off a + S256.size a ≤ S512.size a) (x : S256.Idx) :
    (listRect off inb).emb x = tileIx (off 0 + (x 0).val) := by
  funext a
  have hx : (x 0).val < 256 := (x 0).isLt
  have h' : off 0 + 256 ≤ 512 := inb 0
  match a with
  | 0 =>
    refine Fin.ext ?_
    show off 0 + 1 * (x 0).val = (off 0 + (x 0).val) % 512
    omega

/-- An indexed copy's payload over a table and the list's words. -/
theorem payload_eq (T : S125000x128.Idx → F .f32) (rows : S512.Idx → BitVec 32) (o : ℕ)
    (list : S256.Idx → BitVec 32) (hlist : ∀ x, list x = rows (tileIx (o + (x 0).val)))
    (hn : S256.numel = S256x128.size gathers_S125000x128_S256x128.axis')
    (hin : ∀ x, (list x).toNat < S125000x128.size gathers_S125000x128_S256x128.axis) :
    SparseCore.gatherPayload (F := F) (e := .f32) gathers_S125000x128_S256x128 T (SparseCore.rows (F := F) list hn hin) = fetched T rows o := by
  funext x
  unfold SparseCore.gatherPayload fetched
  congr 1
  funext a
  match a with
  | 0 =>
    refine (Shape.Gathers.idx_axis gathers_S125000x128_S256x128 _ x).trans (Fin.ext ?_)
    have hk : ∀ k : Fin S256.numel, (S256.rowMajor.symm k 0).val = k.val := fun k => by
      have h := Shape.rowMajor_val_one (S256.rowMajor.symm k)
      rw [← h]; exact congrArg Fin.val (S256.rowMajor.apply_symm_apply k)
    show (list (S256.rowMajor.symm ((x 0).cast hn.symm))).toNat = (rows (tileIx (o + (x 0).val))).toNat % 125000
    rw [Nat.mod_eq_of_lt]
    · rw [hlist, hk]; rfl
    · have h := hin (S256.rowMajor.symm ((x 0).cast hn.symm))
      rw [hlist, hk] at h
      exact h
  | 1 =>
    refine Fin.ext ((Shape.Gathers.idx_of_ne gathers_S125000x128_S256x128 _ x (b := (1 : Fin 2)) (by decide)).trans ?_)
    have : (x 1).val < 128 := (x 1).isLt
    show (x 1).val = (x 1).val % 128
    omega

theorem readA_all (T : S125000x128.Idx → F .f32) : (allA.view.read (Elt F) T : S125000x128.Idx → F .f32) = T := by
  funext x; exact congrArg T (emb_all x)
theorem readB_all (T : S125000x128.Idx → F .f32) : (allB.view.read (Elt F) T : S125000x128.Idx → F .f32) = T := by
  funext x; exact congrArg T (emb_all x)
theorem readA_list {off : Fin 1 → ℕ} (inb : ∀ a, off a + S256.size a ≤ S512.size a) (rows : S512.Idx → BitVec 32) (x : S256.Idx) :
    ((listA off inb).view.read (Elt F) rows x : BitVec 32) = rows (tileIx (off 0 + (x 0).val)) := congrArg rows (emb_list inb x)
theorem readB_list {off : Fin 1 → ℕ} (inb : ∀ a, off a + S256.size a ≤ S512.size a) (rows : S512.Idx → BitVec 32) (x : S256.Idx) :
    ((listB off inb).view.read (Elt F) rows x : BitVec 32) = rows (tileIx (off 0 + (x 0).val)) := congrArg rows (emb_list inb x)

variable (d : Dev nD) (L : grid0.Coords)

abbrev bufAPts (g : S256x128.Idx → F .f32) : sProp 𝕄 := bufA.view.loc (thr d L) ↦{fullShare} (g : Buf (Elt F) (bufA.view.loc (thr d L)))
abbrev bufBPts (g : S256x128.Idx → F .f32) : sProp 𝕄 := bufB.view.loc (thr d L) ↦{fullShare} (g : Buf (Elt F) (bufB.view.loc (thr d L)))
abbrev rAPts (r : S512.Idx → BitVec 32) : sProp 𝕄 := rA.view.loc (thr d L) ↦{fullShare} (r : Buf (Elt F) (rA.view.loc (thr d L)))
abbrev rBPts (r : S512.Idx → BitVec 32) : sProp 𝕄 := rB.view.loc (thr d L) ↦{fullShare} (r : Buf (Elt F) (rB.view.loc (thr d L)))
abbrev tabAPts (q : PosShare TreeShare) (T : S125000x128.Idx → F .f32) : sProp 𝕄 :=
  tabA.view.loc (thr d L) ↦{q} (T : Buf (Elt F) (tabA.view.loc (thr d L)))
abbrev tabBPts (q : PosShare TreeShare) (T : S125000x128.Idx → F .f32) : sProp 𝕄 :=
  tabB.view.loc (thr d L) ↦{q} (T : Buf (Elt F) (tabB.view.loc (thr d L)))

/-- Some elements of a list of rows. -/
abbrev rAPart (I : Finset S512.Idx) (r : S512.Idx → BitVec 32) : sProp 𝕄 :=
  rA.view.loc (thr d L) ↦[(I : Finset (Idx (rA.view.loc (thr d L))))]{fullShare} (r : Buf (Elt F) (rA.view.loc (thr d L)))
abbrev rBPart (I : Finset S512.Idx) (r : S512.Idx → BitVec 32) : sProp 𝕄 :=
  rB.view.loc (thr d L) ↦[(I : Finset (Idx (rB.view.loc (thr d L))))]{fullShare} (r : Buf (Elt F) (rB.view.loc (thr d L)))

/-- A fetch out of the first table under way: what its wait delivers. -/
abbrev flightA (q : PosShare TreeShare) (T : S125000x128.Idx → F .f32) (rows : S512.Idx → BitVec 32) (off : Fin 1 → ℕ)
    (inb : ∀ a, off a + S256.size a ≤ S512.size a) : sProp 𝕄 :=
  Transfers.Flight countersEmb (thr d L) (.dma cc0_scratch7.sem) (default : HIx 1) bufA.view.dmaCredit
    iprop(bufAPts d L (fetched T rows (off 0)) ∗ tabAPts d L q T ∗ rAPart (F := F) d L (listA off inb).view.set rows)
abbrev flightB (q : PosShare TreeShare) (T : S125000x128.Idx → F .f32) (rows : S512.Idx → BitVec 32) (off : Fin 1 → ℕ)
    (inb : ∀ a, off a + S256.size a ≤ S512.size a) : sProp 𝕄 :=
  Transfers.Flight countersEmb (thr d L) (.dma cc0_scratch8.sem) (default : HIx 1) bufB.view.dmaCredit
    iprop(bufBPts d L (fetched T rows (off 0)) ∗ tabBPts d L q T ∗ rBPart (F := F) d L (listB off inb).view.set rows)

/-- The start of a fetch out of the first table: what it delivers at its wait is the buffer holding the rows the list
    names, the table's share and the list. -/
theorem wp_fetchA {α : Type} {Q : α → sProp 𝕄} {q : PosShare TreeShare} (T : S125000x128.Idx → F .f32) (rows : S512.Idx → BitVec 32)
    (hrows : ∀ j, (rows j).toNat < 125000) (g : S256x128.Idx → F .f32) (off : Fin 1 → ℕ) (inb : ∀ a, off a + S256.size a ≤ S512.size a)
    {hn : S256.numel = S256x128.size gathers_S125000x128_S256x128.axis'} {hp : (thr d L).2.kind = .scVector}
    {hsrc : allA.view.WordExact} {he : EltTy.bits .f32 = 32} {hsp : Space.hbm = .hbm ∨ Space.hbm = .shared} {hr : S125000x128.StreamRows 0}
    {k : PUnit → Prog (TpuEff nD τ sig (Elt F) Λ₀ (.scVector (cV L) (jV L))) α} :
    iprop(tabAPts d L q T ∗ bufAPts d L g ∗ rAPts (F := F) d L rows ∗ semVal (thr d L, SemLoc.dma cc0_scratch7.sem) 0)
      ⊢ iprop((iprop(flightA d L q T rows off inb ∗ rAPart (F := F) d L (Finset.univ \ (listA off inb).view.set) rows)
              -∗ wp frame (wpE (defs₀ (F := F)) 𝒱₀ (thr d L) none) Set.univ (k ⟨⟩) Q)
          -∗ wp frame (wpE (defs₀ (F := F)) 𝒱₀ (thr d L) none) Set.univ
              (SparseCore.enqueueIndirectGather hp allA bufA gathers_S125000x128_S256x128 (listA off inb) hn cc0_scratch7.sem hsrc he hsp hr >>= k) Q) := by
  have hin : ∀ x, ((listA off inb).view.read (Elt F) rows x : BitVec 32).toNat < 125000 := fun x => by
    rw [readA_list]; exact hrows _
  have hN : ∑ j, (bufA.slice (S256x128.rowRect gathers_S125000x128_S256x128.axis' j)
      (S256x128.stride_rowRect gathers_S125000x128_S256x128.axis' j)).view.dmaCredit = bufA.view.dmaCredit := by
    exact SparseCore.sum_rowCredit_eq_dmaCredit _ _ (fun _ => rfl)
  have hsetT : allA.view.set = Finset.univ := Finset.eq_univ_iff_forall.mpr fun x => Finset.mem_map.mpr ⟨x, Finset.mem_univ _, emb_all x⟩
  have hsetG : bufA.view.set = Finset.univ := View.set_whole _
  have hpay : bufA.view.write (Elt F) g (SparseCore.gatherPayload gathers_S125000x128_S256x128 (allA.view.read (Elt F) T)
      (SparseCore.rows ((listA off inb).view.read (Elt F) rows) hn hin)) Finset.univ = fetched T rows (off 0) := by
    rw [View.write_whole_univ, readA_all]
    exact payload_eq T rows (off 0) _ (readA_list inb rows) hn hin
  iintro ⟨HT, Hg, Hr, Hs⟩; iintro Hk
  ihave Hr := (pointsTo_split_subset (q := fullShare) (f := (rows : Buf (Elt F) (rA.view.loc (thr d L)))) (S := Finset.univ)
    (Finset.subset_univ (listA off inb).view.set)).1 $$ Hr
  icases Hr with ⟨Hr, Hrest⟩
  iapply (SparseCore.wp_indirectGatherLocal countersEmb 𝒱₀ (thr d L) none (hg := gathers_S125000x128_S256x128) (default : HIx 1)
      bufA.view.dmaCredit hN (by decide) hin) $$ [HT Hg Hr Hs]
  · rw [hsetT, hsetG]
    isplitl [HT]; · iexact HT
    isplitl [Hg]; · iexact Hg
    isplitl [Hr]; · iexact Hr
    iexact Hs
  iintro Hfl
  iapply Hk
  isplitl [Hfl]
  · rw [hpay, hsetT, hsetG]; iexact Hfl
  · iexact Hrest

/-- The start of a fetch out of the second table: what it delivers at its wait is the buffer holding the rows the list
    names, the table's share and the list. -/
theorem wp_fetchB {α : Type} {Q : α → sProp 𝕄} {q : PosShare TreeShare} (T : S125000x128.Idx → F .f32) (rows : S512.Idx → BitVec 32)
    (hrows : ∀ j, (rows j).toNat < 125000) (g : S256x128.Idx → F .f32) (off : Fin 1 → ℕ) (inb : ∀ a, off a + S256.size a ≤ S512.size a)
    {hn : S256.numel = S256x128.size gathers_S125000x128_S256x128.axis'} {hp : (thr d L).2.kind = .scVector}
    {hsrc : allB.view.WordExact} {he : EltTy.bits .f32 = 32} {hsp : Space.hbm = .hbm ∨ Space.hbm = .shared} {hr : S125000x128.StreamRows 0}
    {k : PUnit → Prog (TpuEff nD τ sig (Elt F) Λ₀ (.scVector (cV L) (jV L))) α} :
    iprop(tabBPts d L q T ∗ bufBPts d L g ∗ rBPts (F := F) d L rows ∗ semVal (thr d L, SemLoc.dma cc0_scratch8.sem) 0)
      ⊢ iprop((iprop(flightB d L q T rows off inb ∗ rBPart (F := F) d L (Finset.univ \ (listB off inb).view.set) rows)
              -∗ wp frame (wpE (defs₀ (F := F)) 𝒱₀ (thr d L) none) Set.univ (k ⟨⟩) Q)
          -∗ wp frame (wpE (defs₀ (F := F)) 𝒱₀ (thr d L) none) Set.univ
              (SparseCore.enqueueIndirectGather hp allB bufB gathers_S125000x128_S256x128 (listB off inb) hn cc0_scratch8.sem hsrc he hsp hr >>= k) Q) := by
  have hin : ∀ x, ((listB off inb).view.read (Elt F) rows x : BitVec 32).toNat < 125000 := fun x => by
    rw [readB_list]; exact hrows _
  have hN : ∑ j, (bufB.slice (S256x128.rowRect gathers_S125000x128_S256x128.axis' j)
      (S256x128.stride_rowRect gathers_S125000x128_S256x128.axis' j)).view.dmaCredit = bufB.view.dmaCredit := by
    exact SparseCore.sum_rowCredit_eq_dmaCredit _ _ (fun _ => rfl)
  have hsetT : allB.view.set = Finset.univ := Finset.eq_univ_iff_forall.mpr fun x => Finset.mem_map.mpr ⟨x, Finset.mem_univ _, emb_all x⟩
  have hsetG : bufB.view.set = Finset.univ := View.set_whole _
  have hpay : bufB.view.write (Elt F) g (SparseCore.gatherPayload gathers_S125000x128_S256x128 (allB.view.read (Elt F) T)
      (SparseCore.rows ((listB off inb).view.read (Elt F) rows) hn hin)) Finset.univ = fetched T rows (off 0) := by
    rw [View.write_whole_univ, readB_all]
    exact payload_eq T rows (off 0) _ (readB_list inb rows) hn hin
  iintro ⟨HT, Hg, Hr, Hs⟩; iintro Hk
  ihave Hr := (pointsTo_split_subset (q := fullShare) (f := (rows : Buf (Elt F) (rB.view.loc (thr d L)))) (S := Finset.univ)
    (Finset.subset_univ (listB off inb).view.set)).1 $$ Hr
  icases Hr with ⟨Hr, Hrest⟩
  iapply (SparseCore.wp_indirectGatherLocal countersEmb 𝒱₀ (thr d L) none (hg := gathers_S125000x128_S256x128) (default : HIx 1)
      bufB.view.dmaCredit hN (by decide) hin) $$ [HT Hg Hr Hs]
  · rw [hsetT, hsetG]
    isplitl [HT]; · iexact HT
    isplitl [Hg]; · iexact Hg
    isplitl [Hr]; · iexact Hr
    iexact Hs
  iintro Hfl
  iapply Hk
  isplitl [Hfl]
  · rw [hpay, hsetT, hsetG]; iexact Hfl
  · iexact Hrest

/-- Both fetches of a half block and their waits, as the program issues them. -/
def fetchBoth (off : Fin 1 → ℕ) (inb : ∀ a, off a + S256.size a ≤ S512.size a) :
    Prog (TpuEff nD τ sig (Elt F) Λ₀ (.scVector (cV L) (jV L))) PUnit := do
  SparseCore.enqueueIndirectGather rfl allA bufA gathers_S125000x128_S256x128 (listA off inb) rfl cc0_scratch7.sem (View.wordExact_bits rfl) rfl (Or.inl rfl)
  SparseCore.enqueueIndirectGather rfl allB bufB gathers_S125000x128_S256x128 (listB off inb) rfl cc0_scratch8.sem (View.wordExact_bits rfl) rfl (Or.inl rfl)
  SparseCore.waitIndirectGather cc0_scratch7.sem allA bufA (View.wordExact_bits rfl) (Memref.isWhole_whole _).wordExact
  SparseCore.waitIndirectGather cc0_scratch8.sem allB bufB (View.wordExact_bits rfl) (Memref.isWhole_whole _).wordExact

/-- What a tile owes, its waits recorded beyond `W` being its own copies'. -/
abbrev owesOwn (O : CellTallies nD τ sig (HIx 1)) (W : Waits sig (HIx 1)) : sProp 𝕄 :=
  iprop(∃ W', ⌜∀ p ∈ W', p ∈ W ∨ p.2 = none⌝ ∗ owes (thr d L) O W')

/-- What the fetches of a half block hold: the tables' shares, the two buffers, the two lists, the two semaphores. -/
abbrev fetchHeld (q : PosShare TreeShare) (TA TB : S125000x128.Idx → F .f32) (ra rb : S512.Idx → BitVec 32)
    (gA gB : S256x128.Idx → F .f32) : sProp 𝕄 :=
  iprop((tabAPts d L q TA ∗ bufAPts d L gA ∗ rAPts (F := F) d L ra ∗ semVal (thr d L, SemLoc.dma cc0_scratch7.sem) 0)
    ∗ (tabBPts d L q TB ∗ bufBPts d L gB ∗ rBPts (F := F) d L rb ∗ semVal (thr d L, SemLoc.dma cc0_scratch8.sem) 0))

theorem owes_insert {W W' : Waits sig (HIx 1)} (h : ∀ p ∈ W', p ∈ W ∨ p.2 = none) (sm : SemLoc sig) :
    ∀ p ∈ insert (sm, (default : HIx 1)) W', p ∈ W ∨ p.2 = none := fun p hp => by
  rcases Finset.mem_insert.mp hp with rfl | hp
  · exact .inr rfl
  · exact h p hp

/-- A window of the list and the rest are the list. -/
theorem joinA (r : S512.Idx → BitVec 32) (off : Fin 1 → ℕ) (inb : ∀ a, off a + S256.size a ≤ S512.size a) :
    iprop(rAPart (F := F) d L (listA off inb).view.set r ∗ rAPart (F := F) d L (Finset.univ \ (listA off inb).view.set) r)
      ⊢ rAPts (F := F) d L r := (pointsTo_split_subset (Finset.subset_univ _)).2
theorem joinB (r : S512.Idx → BitVec 32) (off : Fin 1 → ℕ) (inb : ∀ a, off a + S256.size a ≤ S512.size a) :
    iprop(rBPart (F := F) d L (listB off inb).view.set r ∗ rBPart (F := F) d L (Finset.univ \ (listB off inb).view.set) r)
      ⊢ rBPts (F := F) d L r := (pointsTo_split_subset (Finset.subset_univ _)).2

/-- Both fetches: the buffers hold the rows the lists name. -/
theorem wp_fetchBoth {α : Type} {Q : α → sProp 𝕄} {q : PosShare TreeShare} (TA TB : S125000x128.Idx → F .f32)
    (ra rb : S512.Idx → BitVec 32) (hra : ∀ j, (ra j).toNat < 125000) (hrb : ∀ j, (rb j).toNat < 125000)
    (gA gB : S256x128.Idx → F .f32) (off : Fin 1 → ℕ) (inb : ∀ a, off a + S256.size a ≤ S512.size a)
    {O : CellTallies nD τ sig (HIx 1)} {W : Waits sig (HIx 1)} (hO : ∀ g, O g none = 0)
    (k : PUnit → Prog (TpuEff nD τ sig (Elt F) Λ₀ (.scVector (cV L) (jV L))) α) :
    iprop(levAts (K (F := F)).L (K (F := F)).lev ∗ fetchHeld d L q TA TB ra rb gA gB ∗ owesOwn (F := F) d L O W)
      ⊢ iprop((iprop(fetchHeld d L q TA TB ra rb (fetched TA ra (off 0)) (fetched TB rb (off 0)) ∗ owesOwn (F := F) d L O W)
              -∗ wp frame (wpE (defs₀ (F := F)) 𝒱₀ (thr d L) none) Set.univ (k ⟨⟩) Q)
          -∗ wp frame (wpE (defs₀ (F := F)) 𝒱₀ (thr d L) none) Set.univ (fetchBoth L off inb >>= k) Q) := by
  unfold fetchBoth
  simp only [Prog.bind_assoc]
  iintro ⟨#Hlv, ⟨HA, HB⟩, ⟨%W', %hW', HO⟩⟩; iintro Hk
  iapply (wp_fetchA d L TA ra hra gA off inb) $$ HA
  iintro ⟨HA, HrestA⟩
  iapply (wp_fetchB d L TB rb hrb gB off inb) $$ HB
  iintro ⟨HB, HrestB⟩
  iapply (Transfers.wp_waitLocalO countersEmb 𝒱₀ (thr d L) none (default : HIx 1) (rfl : bufA.view.dmaCredit = _)) $$ [HA HO]
  · isplitl [HA]; · iexact HA
    isplitl [HO]; · iexact HO
    iapply ((K (F := F)).mayWait_none (SemLoc.dma cc0_scratch7.sem) hO); iexact Hlv
  iintro ⟨⟨HgA, HTA, HrA⟩, HsA, HO⟩
  iapply (Transfers.wp_waitLocalO countersEmb 𝒱₀ (thr d L) none (default : HIx 1) (rfl : bufB.view.dmaCredit = _)) $$ [HB HO]
  · isplitl [HB]; · iexact HB
    isplitl [HO]; · iexact HO
    iapply ((K (F := F)).mayWait_none (SemLoc.dma cc0_scratch8.sem) hO); iexact Hlv
  iintro ⟨⟨HgB, HTB, HrB⟩, HsB, HO⟩
  ihave HrA := (joinA d L ra off inb) $$ [HrA HrestA]; · isplitl [HrA] <;> iassumption
  ihave HrB := (joinB d L rb off inb) $$ [HrB HrestB]; · isplitl [HrB] <;> iassumption
  iapply Hk
  isplitr [HO]
  · isplitl [HTA HgA HrA HsA]
    · isplitl [HTA]; · iexact HTA
      isplitl [HgA]; · iexact HgA
      isplitl [HrA]; · iexact HrA
      iexact HsA
    · isplitl [HTB]; · iexact HTB
      isplitl [HgB]; · iexact HgB
      isplitl [HrB]; · iexact HrB
      iexact HsB
  · iexists _; isplitr
    swap; · iexact HO
    ipureintro
    exact owes_insert (owes_insert hW' _) _

end Cert.Proof.Lookup
-- ==== Proof.Tile.lean ====
/-
  The task of one tile: its four lists copied in, the rows of either half of its block fetched, the two loops, the block
  of the result copied out. The block of the result ends at the values of its pairs.
-/
module

public import proofs.«01_k».proof.Proof.Fetch

@[expose] public section

set_option maxRecDepth 16384

noncomputable section

namespace Cert.Proof.Lookup

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## The loops -/

/-- The values of a tile's block. -/
def tileVal (TA TB : S125000x128.Idx → F .f32) (ia ib ra rb : S512.Idx → BitVec 32) : S512.Idx → F .f32 :=
  fun j => pairAt TA TB (ia j) (ib j) (ra j) (rb j)

/-- The row a lane reads at trip `t`. -/
theorem lane_row (t : ℕ) (ht : t < 16) (x : S16.Idx) :
    (addi (broadcast S16 (Scalar.muli (Scf.iv 0#32 1#32 t) 16#32))
      (iota .scVector S16 32 [0] iota_S16_d0_w32_scVector) x : BitVec 32).toNat = 16 * t + (x 0).val := by
  have hx : (x 0).val < 16 := (x 0).isLt
  have hi : (iota .scVector S16 32 [0] iota_S16_d0_w32_scVector x : BitVec 32) = BitVec.ofNat 32 (x 0).val := by
    simp [iota]
  have hm : (Scalar.muli (Scf.iv 0#32 1#32 t) 16#32 : BitVec 32) = BitVec.ofNat 32 (16 * t) := by
    apply BitVec.eq_of_toNat_eq
    simp [Scalar.muli, IntOp.muli, Scf.iv]
    omega
  have e : (addi (broadcast S16 (Scalar.muli (Scf.iv 0#32 1#32 t) 16#32))
      (iota .scVector S16 32 [0] iota_S16_d0_w32_scVector) x : BitVec 32)
      = BitVec.ofNat 32 (16 * t) + BitVec.ofNat 32 (x 0).val := by
    rw [← hi, ← hm]; rfl
  rw [e, BitVec.toNat_add, BitVec.toNat_ofNat, BitVec.toNat_ofNat]
  omega

/-- What a trip computes of the fetched rows: the tile's values of its sixteen pairs. -/
theorem trip_val (TA TB : S125000x128.Idx → F .f32) (ia ib ra rb : S512.Idx → BitVec 32) (o t : ℕ) (ht : t < 16)
    (row : IVec S16 32) (hrow : ∀ x, (row x).toNat = 16 * t + (x 0).val) (x : S16.Idx) :
    pairVal (fetched TA ra o) (fetched TB rb o) row (k0_pay16 (F := F) (lanes (o + 16 * t) ia)) (k0_pay17 (F := F) (lanes (o + 16 * t) ib))
        columns (broadcast S16 (Scalar.ofBits .f32 0x00000000#32)) x
      = tileVal TA TB ia ib ra rb (tileIx (o + 16 * t + (x 0).val)) := by
  have hx : (x 0).val < 16 := (x 0).isLt
  have key : ∀ (TT : S125000x128.Idx → F .f32) (r : S512.Idx → BitVec 32) (c : ℕ),
      fetched TT r o (bufIx (row x).toNat c) = TT (tabIx (r (tileIx (o + 16 * t + (x 0).val))).toNat c) := by
    intro TT r c
    have h1 : (bufIx (row x).toNat c 0).val = 16 * t + (x 0).val := by
      show (row x).toNat % 256 = _
      rw [hrow, Nat.mod_eq_of_lt (by omega)]
    have h2 : tabIx (r (tileIx (o + 16 * t + (x 0).val))).toNat (bufIx (row x).toNat c 1).val
        = tabIx (r (tileIx (o + 16 * t + (x 0).val))).toNat c := by
      funext a
      match a with
      | ⟨0, _⟩ => rfl
      | ⟨1, _⟩ => exact Fin.ext (Nat.mod_mod _ _)
    unfold fetched
    rw [h1, ← add_assoc, h2]
  exact pairVal_columns TA TB _ _ row _ _ x _ _ _ _ (pay16_toNat _ x) (pay17_toNat _ x) (key TA ra) (key TB rb)

variable (d : Dev nD) (L : grid0.Coords)

/-- The first loop: the first half of the block's values. -/
theorem wp_loop1 (TA TB : S125000x128.Idx → F .f32) (ia ib ra rb : S512.Idx → BitVec 32) :
    tripInv d L ia ib (fetched TA ra 0) (fetched TB rb 0) (tileVal TA TB ia ib ra rb) 0
      ⊢ wp frame (wpE (defs₀ (F := F)) 𝒱₀ (thr d L) none) Set.univ
          (Scf.Loop.for k0_t1_loop k0_t1_ok ⟨⟩ fun t _ =>
            trip L (k0_off2 t) (k0_off3 t) (k0_off2_inb t) (k0_off3_inb t) (k0_pay15 0#32 1#32 t))
          fun _ => tripInv d L ia ib (fetched TA ra 0) (fetched TB rb 0) (tileVal TA TB ia ib ra rb) 256 := by
  have hbody : ∀ (t : Fin k0_t1_loop.trips) (_ : PUnit),
      tripInv d L ia ib (fetched TA ra 0) (fetched TB rb 0) (tileVal TA TB ia ib ra rb) (0 + 16 * t.val)
        ⊢ wp frame (wpE (defs₀ (F := F)) 𝒱₀ (thr d L) none) Set.univ
            (trip L (k0_off2 t) (k0_off3 t) (k0_off2_inb t) (k0_off3_inb t) (k0_pay15 0#32 1#32 t))
            fun _ => tripInv d L ia ib (fetched TA ra 0) (fetched TB rb 0) (tileVal TA TB ia ib ra rb) (0 + 16 * (t.val + 1)) := by
    intro t _
    have ht : t.val < 16 := t.isLt
    have hrow : ∀ x, (k0_pay15 0#32 1#32 t x : BitVec 32).toNat = 16 * t.val + (x 0).val := lane_row t.val ht
    exact wp_trip d L ia ib _ _ _ (0 + 16 * t.val) (by rw [k0_off2_eq]; simp) (by rw [k0_off3_eq]; simp) _ _
      (fun x => by have hx : (x 0).val < 16 := (x 0).isLt; rw [hrow]; omega) (trip_val TA TB ia ib ra rb 0 t.val ht _ hrow)
  iintro H
  iapply (Scf.wp_for _ _ _ _ _ _ k0_t1_ok _ _
    (fun t _ => tripInv d L ia ib (fetched TA ra 0) (fetched TB rb 0) (tileVal TA TB ia ib ra rb) (0 + 16 * t)) hbody)
  isplitl [H]; · iexact H
  iintro %u H; iexact H

/-- The second loop: the second half's. -/
theorem wp_loop2 (TA TB : S125000x128.Idx → F .f32) (ia ib ra rb : S512.Idx → BitVec 32) :
    tripInv d L ia ib (fetched TA ra 256) (fetched TB rb 256) (tileVal TA TB ia ib ra rb) 256
      ⊢ wp frame (wpE (defs₀ (F := F)) 𝒱₀ (thr d L) none) Set.univ
          (Scf.Loop.for k0_t2_loop k0_t2_ok ⟨⟩ fun t _ =>
            trip L (k0_off4 t) (k0_off5 t) (k0_off4_inb t) (k0_off5_inb t) (k0_pay47 0#32 1#32 t))
          fun _ => tripInv d L ia ib (fetched TA ra 256) (fetched TB rb 256) (tileVal TA TB ia ib ra rb) 512 := by
  have hbody : ∀ (t : Fin k0_t2_loop.trips) (_ : PUnit),
      tripInv d L ia ib (fetched TA ra 256) (fetched TB rb 256) (tileVal TA TB ia ib ra rb) (256 + 16 * t.val)
        ⊢ wp frame (wpE (defs₀ (F := F)) 𝒱₀ (thr d L) none) Set.univ
            (trip L (k0_off4 t) (k0_off5 t) (k0_off4_inb t) (k0_off5_inb t) (k0_pay47 0#32 1#32 t))
            fun _ => tripInv d L ia ib (fetched TA ra 256) (fetched TB rb 256) (tileVal TA TB ia ib ra rb) (256 + 16 * (t.val + 1)) := by
    intro t _
    have ht : t.val < 16 := t.isLt
    have hrow : ∀ x, (k0_pay47 0#32 1#32 t x : BitVec 32).toNat = 16 * t.val + (x 0).val := lane_row t.val ht
    exact wp_trip d L ia ib _ _ _ (256 + 16 * t.val) (by rw [k0_off4_eq]; simp [add_comm]) (by rw [k0_off5_eq]; simp [add_comm]) _ _
      (fun x => by have hx : (x 0).val < 16 := (x 0).isLt; rw [hrow]; omega) (trip_val TA TB ia ib ra rb 256 t.val ht _ hrow)
  iintro H
  iapply (Scf.wp_for _ _ _ _ _ _ k0_t2_ok _ _
    (fun t _ => tripInv d L ia ib (fetched TA ra 256) (fetched TB rb 256) (tileVal TA TB ia ib ra rb) (256 + 16 * t)) hbody)
  isplitl [H]; · iexact H
  iintro %u H; iexact H

/-! ## A block's copy in, and the block's copy out -/

/-- The tile's block of an array of 16384. -/
abbrev blkRect : Rect S16384 := Rect.unit (s := S16384) (k0_off1 L) S512.size (k0_off1_inb L)
/-- What the tile's block of an array holds. -/
def blockOf {α : Type} (X : S16384.Idx → α) : S512.Idx → α := fun j => X ((blkRect L).emb j)

/-- A list's copy in, and its wait. -/
def copyIn (src : Memref sig .scVector .hbm S16384 .i32) (dst : Memref sig .scVector .vmem S512 .i32) (hdst : dst.IsWhole) (sm : DmaSem sig) :
    Prog (TpuEff nD τ sig (Elt F) Λ₀ (.scVector (cV L) (jV L))) PUnit := do
  Prog.lift (.enqueueDma (src.slice (blkRect L) (fun _ => rfl)) (.here dst) (.dma sm) (View.wordExact_bits rfl) hdst.wordExact ⟨Or.inl rfl, trivial⟩)
  Prog.lift (.waitDma2 sm (src.slice (blkRect L) (fun _ => rfl)) dst (View.wordExact_bits rfl) hdst.wordExact)

/-- The block's copy out, and its wait. -/
def copyOut : Prog (TpuEff nD τ sig (Elt F) Λ₀ (.scVector (cV L) (jV L))) PUnit := do
  Prog.lift (.enqueueDma acc (.here (outM.slice (blkRect L) (fun _ => rfl))) (.dma cc0_scoped4.sem) (Memref.isWhole_whole _).wordExact
    (View.wordExact_bits rfl) ⟨Or.inl rfl, trivial⟩)
  Prog.lift (.waitDma2 cc0_scoped4.sem acc (outM.slice (blkRect L) (fun _ => rfl)) (Memref.isWhole_whole _).wordExact (View.wordExact_bits rfl))

/-- A copy in: the tile's list ends written with its block of the array, the array kept. -/
theorem wp_copyIn {α : Type} {Q : α → sProp 𝕄} (src : Memref sig .scVector .hbm S16384 .i32) (dst : Memref sig .scVector .vmem S512 .i32)
    (hdst : dst.IsWhole) (sm : DmaSem sig) (hpos : 0 < dst.view.dmaCredit)
    (X : Buf (Elt F) (src.view.loc (thr d L))) (f : Buf (Elt F) (dst.view.loc (thr d L)))
    {O : CellTallies nD τ sig (HIx 1)} {W : Waits sig (HIx 1)} (hO : ∀ g, O g none = 0)
    (k : PUnit → Prog (TpuEff nD τ sig (Elt F) Λ₀ (.scVector (cV L) (jV L))) α) :
    iprop(levAts (K (F := F)).L (K (F := F)).lev
        ∗ (src.view.loc (thr d L) ↦[(src.slice (blkRect L) (fun _ => rfl)).view.set]{fullShare} X)
        ∗ (dst.view.loc (thr d L) ↦{fullShare} f) ∗ semVal (thr d L, SemLoc.dma sm) 0 ∗ owesOwn (F := F) d L O W)
      ⊢ iprop((iprop((src.view.loc (thr d L) ↦[(src.slice (blkRect L) (fun _ => rfl)).view.set]{fullShare} X)
              ∗ (dst.view.loc (thr d L) ↦{fullShare} dst.view.write (Elt F) f ((src.slice (blkRect L) (fun _ => rfl)).view.read (Elt F) X) Finset.univ)
              ∗ semVal (thr d L, SemLoc.dma sm) 0 ∗ owesOwn (F := F) d L O W)
            -∗ wp frame (wpE (defs₀ (F := F)) 𝒱₀ (thr d L) none) Set.univ (k ⟨⟩) Q)
          -∗ wp frame (wpE (defs₀ (F := F)) 𝒱₀ (thr d L) none) Set.univ (copyIn L src dst hdst sm >>= k) Q) := by
  unfold copyIn
  simp only [Prog.lift, Prog.bind_op, Prog.bind_ret, Prog.pure_eq_ret, Prog.bind_assoc]
  iintro ⟨#Hlv, Hx, Hf, Hs, ⟨%W', %hW', HO⟩⟩; iintro Hk
  iapply (Transfers.wp_dmaLocal countersEmb 𝒱₀ (thr d L) none (src := src.slice (blkRect L) (fun _ => rfl)) (dst := dst)
    (default : HIx 1) dst.view.dmaCredit rfl hpos (Finset.subset_univ _)) $$ [Hx Hf Hs]
  · isplitl [Hx]; · iexact Hx
    isplitl [Hf]; · iexact Hf
    iexact Hs
  iintro Hfl
  iapply (Transfers.wp_waitLocalO countersEmb 𝒱₀ (thr d L) none (default : HIx 1) (rfl : dst.view.dmaCredit = _)) $$ [Hfl HO]
  · isplitl [Hfl]; · iexact Hfl
    isplitl [HO]; · iexact HO
    iapply ((K (F := F)).mayWait_none (SemLoc.dma sm) hO); iexact Hlv
  iintro ⟨⟨Hf, Hx⟩, Hs, HO⟩
  iapply Hk
  isplitl [Hx]; · iexact Hx
  isplitl [Hf]; · iexact Hf
  isplitl [Hs]; · iexact Hs
  iexists _; isplitr
  swap; · iexact HO
  ipureintro
  exact owes_insert hW' _

/-- The copy out: the block of the result ends written with the tile's values. -/
theorem wp_copyOut {α : Type} {Q : α → sProp 𝕄} (g : S512.Idx → F .f32) (f : S16384.Idx → F .f32)
    {O : CellTallies nD τ sig (HIx 1)} {W : Waits sig (HIx 1)} (hO : ∀ g, O g none = 0)
    (k : PUnit → Prog (TpuEff nD τ sig (Elt F) Λ₀ (.scVector (cV L) (jV L))) α) :
    iprop(levAts (K (F := F)).L (K (F := F)).lev
        ∗ (acc.view.loc (thr d L) ↦{fullShare} (g : Buf (Elt F) (acc.view.loc (thr d L))))
        ∗ (outM.view.loc (thr d L) ↦[(outM.slice (blkRect L) (fun _ => rfl)).view.set]{fullShare} (f : Buf (Elt F) (outM.view.loc (thr d L))))
        ∗ semVal (thr d L, SemLoc.dma cc0_scoped4.sem) 0 ∗ owesOwn (F := F) d L O W)
      ⊢ iprop((iprop((acc.view.loc (thr d L) ↦{fullShare} (g : Buf (Elt F) (acc.view.loc (thr d L))))
              ∗ (outM.view.loc (thr d L) ↦[(outM.slice (blkRect L) (fun _ => rfl)).view.set]{fullShare}
                  (outM.slice (blkRect L) (fun _ => rfl)).view.write (Elt F) (f : Buf (Elt F) (outM.view.loc (thr d L))) g Finset.univ)
              ∗ semVal (thr d L, SemLoc.dma cc0_scoped4.sem) 0 ∗ owesOwn (F := F) d L O W)
            -∗ wp frame (wpE (defs₀ (F := F)) 𝒱₀ (thr d L) none) Set.univ (k ⟨⟩) Q)
          -∗ wp frame (wpE (defs₀ (F := F)) 𝒱₀ (thr d L) none) Set.univ (copyOut L >>= k) Q) := by
  unfold copyOut
  have hset : acc.view.set = Finset.univ := View.set_whole _
  have hread : acc.view.read (Elt F) g = g := View.read_whole _ _
  simp only [Prog.lift, Prog.bind_op, Prog.bind_ret, Prog.pure_eq_ret, Prog.bind_assoc]
  iintro ⟨#Hlv, Hx, Hf, Hs, ⟨%W', %hW', HO⟩⟩; iintro Hk
  iapply (Transfers.wp_dmaLocal countersEmb 𝒱₀ (thr d L) none (src := acc) (dst := outM.slice (blkRect L) (fun _ => rfl)) (q := fullShare) (fs := g)
    (default : HIx 1) (outM.slice (blkRect L) (fun _ => rfl)).view.dmaCredit rfl (show 0 < acc.view.dmaCredit by decide) (Finset.Subset.refl _)) $$ [Hx Hf Hs]
  · rw [hset]
    isplitl [Hx]; · iexact Hx
    isplitl [Hf]; · iexact Hf
    iexact Hs
  iintro Hfl
  iapply (Transfers.wp_waitLocalO countersEmb 𝒱₀ (thr d L) none (default : HIx 1)
    (rfl : (outM.slice (blkRect L) (fun _ => rfl)).view.dmaCredit = _)) $$ [Hfl HO]
  · isplitl [Hfl]; · iexact Hfl
    isplitl [HO]; · iexact HO
    iapply ((K (F := F)).mayWait_none (SemLoc.dma cc0_scoped4.sem) hO); iexact Hlv
  rw [hset, hread]
  iintro ⟨⟨Hf, Hx⟩, Hs, HO⟩
  iapply Hk
  isplitl [Hx]; · iexact Hx
  isplitl [Hf]; · iexact Hf
  isplitl [Hs]; · iexact Hs
  iexists _; isplitr
  swap; · iexact HO
  ipureintro
  exact owes_insert hW' _

/-! ## The program of a tile -/

/-- A tile's task, by its steps. -/
theorem tile_eq :
    cc0_k (F := F) L idsA (Memref.isWhole_whole _) idsB (Memref.isWhole_whole _) rowsA (Memref.isWhole_whole _)
    rowsB (Memref.isWhole_whole _) tabA (Memref.isWhole_whole _) tabB (Memref.isWhole_whole _) outM (Memref.isWhole_whole _)
    iA (Memref.isWhole_whole _) iB (Memref.isWhole_whole _) rA (Memref.isWhole_whole _) rB (Memref.isWhole_whole _)
    bufA (Memref.isWhole_whole _) bufB (Memref.isWhole_whole _) acc (Memref.isWhole_whole _)
    cc0_scratch7 cc0_scratch8 cc0_scoped0 cc0_scoped1 cc0_scoped2 cc0_scoped3 cc0_scoped4
      = (do
        copyIn L idsA iA (Memref.isWhole_whole _) cc0_scoped0.sem
        copyIn L idsB iB (Memref.isWhole_whole _) cc0_scoped1.sem
        copyIn L rowsA rA (Memref.isWhole_whole _) cc0_scoped2.sem
        copyIn L rowsB rB (Memref.isWhole_whole _) cc0_scoped3.sem
        fetchBoth L ![0] inb_S512_S256_0
        Scf.Loop.for k0_t1_loop k0_t1_ok ⟨⟩ fun t _ =>
          trip L (k0_off2 t) (k0_off3 t) (k0_off2_inb t) (k0_off3_inb t) (k0_pay15 0#32 1#32 t)
        fetchBoth L ![256] inb_S512_S256_256
        Scf.Loop.for k0_t2_loop k0_t2_ok ⟨⟩ fun t _ =>
          trip L (k0_off4 t) (k0_off5 t) (k0_off4_inb t) (k0_off5_inb t) (k0_pay47 0#32 1#32 t)
        copyOut L
        pure ⟨⟩) := by
  rw [cc0_k_eq_skeleton]
  unfold cc0_k_skel
  rw [k0_part7_eq_skeleton]
  unfold k0_part7_skel copyIn copyOut fetchBoth
  have e₁ := funext fun t => funext fun u => t1_body_eq (F := F) L t u
  have e₂ := funext fun t => funext fun u => t2_body_eq (F := F) L t u
  simp only [Prog.bind_assoc, pure_bind, e₁, e₂]
  rfl

end Cert.Proof.Lookup
-- ==== Proof.TileRun.lean ====
/-
  The task of one tile, run: from its blocks and shares, its own buffers and its own semaphores, to the same with the
  block of the result at the values of its pairs.
-/
module

public import proofs.«01_k».proof.Proof.Tile

@[expose] public section

set_option maxRecDepth 16384

noncomputable section

namespace Cert.Proof.Lookup

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (d : Dev nD) (L : grid0.Coords)

/-! ## What the task is handed -/

/-- The indices of the tile's block. -/
abbrev blkSet : Finset S16384.Idx := (blkRect L).set

/-- The values of every pair. -/
def lookupVal (TA TB : S125000x128.Idx → F .f32) (XA XB RA RB : S16384.Idx → BitVec 32) : S16384.Idx → F .f32 :=
  fun j => pairAt TA TB (XA j) (XB j) (RA j) (RB j)

/-- What a tile is handed and hands back: its block of the four lists and of the result, a share of either table. -/
abbrev taskHeld (q : PosShare TreeShare) (TA TB : S125000x128.Idx → F .f32) (XA XB RA RB : S16384.Idx → BitVec 32)
    (f : S16384.Idx → F .f32) : sProp 𝕄 :=
  iprop((idsALoc d ↦[blkSet L]{fullShare} (XA : Buf (Elt F) (idsALoc d))) ∗ (idsBLoc d ↦[blkSet L]{fullShare} (XB : Buf (Elt F) (idsBLoc d)))
    ∗ (rowsALoc d ↦[blkSet L]{fullShare} (RA : Buf (Elt F) (rowsALoc d))) ∗ (rowsBLoc d ↦[blkSet L]{fullShare} (RB : Buf (Elt F) (rowsBLoc d)))
    ∗ (tabALoc d ↦{q} (TA : Buf (Elt F) (tabALoc d))) ∗ (tabBLoc d ↦{q} (TB : Buf (Elt F) (tabBLoc d)))
    ∗ (outLoc d ↦[blkSet L]{fullShare} (f : Buf (Elt F) (outLoc d))))

theorem set_idsA : (idsA.slice (blkRect L) (fun _ => rfl)).view.set = blkSet L := by
  show ((View.whole (main_v1_scv : Ref sig .scVector)).slice (blkRect L)).set = _
  exact View.set_slice_whole _ _
theorem set_idsB : (idsB.slice (blkRect L) (fun _ => rfl)).view.set = blkSet L := by
  show ((View.whole (main_v3_scv : Ref sig .scVector)).slice (blkRect L)).set = _
  exact View.set_slice_whole _ _
theorem set_rowsA : (rowsA.slice (blkRect L) (fun _ => rfl)).view.set = blkSet L := by
  show ((View.whole (main_v7_scv : Ref sig .scVector)).slice (blkRect L)).set = _
  exact View.set_slice_whole _ _
theorem set_rowsB : (rowsB.slice (blkRect L) (fun _ => rfl)).view.set = blkSet L := by
  show ((View.whole (main_v9_scv : Ref sig .scVector)).slice (blkRect L)).set = _
  exact View.set_slice_whole _ _
theorem set_outM : (outM.slice (blkRect L) (fun _ => rfl)).view.set = blkSet L := by
  show ((View.whole (main_v10_scv : Ref sig .scVector)).slice (blkRect L)).set = _
  exact View.set_slice_whole _ _

/-- What a copy in leaves in a list is the tile's block of the array. -/
theorem copied_iA (X : S16384.Idx → BitVec 32) (f : Buf (Elt F) (iA.view.loc (thr d L))) :
    iA.view.write (Elt F) f ((idsA.slice (blkRect L) (fun _ => rfl)).view.read (Elt F) (X : Buf (Elt F) (idsA.view.loc (thr d L)))) Finset.univ = blockOf L X :=
  (View.write_whole_univ _ _ _).trans (funext fun j => (View.read_apply _ _).trans (cast_eq _ _))
theorem copied_iB (X : S16384.Idx → BitVec 32) (f : Buf (Elt F) (iB.view.loc (thr d L))) :
    iB.view.write (Elt F) f ((idsB.slice (blkRect L) (fun _ => rfl)).view.read (Elt F) (X : Buf (Elt F) (idsB.view.loc (thr d L)))) Finset.univ = blockOf L X :=
  (View.write_whole_univ _ _ _).trans (funext fun j => (View.read_apply _ _).trans (cast_eq _ _))
theorem copied_rA (X : S16384.Idx → BitVec 32) (f : Buf (Elt F) (rA.view.loc (thr d L))) :
    rA.view.write (Elt F) f ((rowsA.slice (blkRect L) (fun _ => rfl)).view.read (Elt F) (X : Buf (Elt F) (rowsA.view.loc (thr d L)))) Finset.univ = blockOf L X :=
  (View.write_whole_univ _ _ _).trans (funext fun j => (View.read_apply _ _).trans (cast_eq _ _))
theorem copied_rB (X : S16384.Idx → BitVec 32) (f : Buf (Elt F) (rB.view.loc (thr d L))) :
    rB.view.write (Elt F) f ((rowsB.slice (blkRect L) (fun _ => rfl)).view.read (Elt F) (X : Buf (Elt F) (rowsB.view.loc (thr d L)))) Finset.univ = blockOf L X :=
  (View.write_whole_univ _ _ _).trans (funext fun j => (View.read_apply _ _).trans (cast_eq _ _))

/-- The block written out holds the values of its pairs. -/
theorem written_out (TA TB : S125000x128.Idx → F .f32) (XA XB RA RB : S16384.Idx → BitVec 32) (f : S16384.Idx → F .f32)
    (i : S16384.Idx) (hi : i ∈ blkSet L) :
    (outM.slice (blkRect L) (fun _ => rfl)).view.write (Elt F) (f : Buf (Elt F) (outM.view.loc (thr d L)))
        (tileVal TA TB (blockOf L XA) (blockOf L XB) (blockOf L RA) (blockOf L RB)) Finset.univ i
      = lookupVal TA TB XA XB RA RB i := by
  rw [← set_outM] at hi
  obtain ⟨j, -, rfl⟩ := Finset.mem_map.mp hi
  exact (View.write_emb_of_mem _ _ (Finset.mem_univ j)).trans (cast_eq _ _)

/-! ## The tile's own cells and buffers -/

abbrev dcell (sm : DmaSem sig) : GSem nD τ sig := (thr d L, SemLoc.dma sm)

/-- Members listed out of a separating conjunction, the rest last. -/
theorem bigSep_list {I : Type} [DecidableEq I] (Φ : I → sProp 𝕄) : ∀ (l : List I) (s : Finset I), l.Nodup → (∀ x ∈ l, x ∈ s) →
    bigSep s Φ = l.foldr (fun i P => iprop(Φ i ∗ P)) (bigSep (s \ l.toFinset) Φ)
  | [], s, _, _ => by simp
  | i :: l, s, hl, hs => by
    have hi := List.nodup_cons.mp hl
    rw [SparseCore.bigSep_erase' (hs i (List.mem_cons_self ..)),
      bigSep_list Φ l (s.erase i) hi.2 fun x hx =>
        Finset.mem_erase.mpr ⟨fun e => hi.1 (e ▸ hx), hs x (List.mem_cons_of_mem _ hx)⟩]
    have e : s.erase i \ l.toFinset = s \ (i :: l).toFinset := by
      ext x; simp only [Finset.mem_sdiff, Finset.mem_erase, List.mem_toFinset, List.mem_cons]; tauto
    rw [e]; rfl

/-- The semaphores of a tile. -/
abbrev tileSems : List (DmaSem sig) :=
  [cc0_scratch7.sem, cc0_scratch8.sem, cc0_scoped0.sem, cc0_scoped1.sem, cc0_scoped2.sem, cc0_scoped3.sem, cc0_scoped4.sem]
/-- The buffers of a tile. -/
abbrev tileBufs : List (Ref sig .scVector) :=
  [cc0_scratch0, cc0_scratch1, cc0_scratch2, cc0_scratch3, cc0_scratch4, cc0_scratch5, cc0_scratch6]

theorem ownSems0_V :
    (ownSems0 (thr d L) : sProp 𝕄)
      = (tileSems.map (dcell d L)).foldr (fun g P => iprop(semVal g 0 ∗ P))
          (bigSep (ownCells (thr d L) \ (tileSems.map (dcell d L)).toFinset) fun g => semVal g 0) := by
  unfold SparseCore.Cfg.ownSems0
  refine bigSep_list _ _ _ (List.Nodup.map (fun a b e => ?_) (by decide)) fun x hx => ?_
  · have := congrArg Prod.snd e
    simpa using this
  · obtain ⟨sm, hsm, rfl⟩ := List.mem_map.mp hx
    refine (mem_ownCells (g := dcell d L sm)).mpr ⟨rfl, ?_⟩
    have h : ∀ sm ∈ tileSems, (SemLoc.dma sm : SemLoc sig).isScoped .scVector = true := by decide
    exact h sm hsm

theorem ownBufs_V :
    (ownBufs (thr d L) : sProp 𝕄)
      = (tileBufs.map (Proc.scVector (τ := τ) (cV L) (jV L)).devRef).foldr (fun b P => iprop((∃ f, ((d, b) : Loc nD τ sig) ↦{fullShare} f) ∗ P))
          (bigSep (ownRefs (τ := τ) (.scVector (cV L) (jV L)) \ (tileBufs.map (Proc.scVector (τ := τ) (cV L) (jV L)).devRef).toFinset)
            fun b => iprop(∃ f, ((d, b) : Loc nD τ sig) ↦{fullShare} f)) := by
  unfold SparseCore.Cfg.ownBufs
  refine bigSep_list _ _ _ (List.Nodup.map (Proc.devRef_injective _) (show (tileBufs : List (Ref sig .scVector)).Nodup by decide)) fun x hx => ?_
  obtain ⟨b, hb, rfl⟩ := List.mem_map.mp hx
  fin_cases hb <;> exact SparseCore.Cfg.mem_ownRefs_of_owner (p := Proc.scVector (cV L) (jV L)) rfl

/-! ## The task -/

/-- A part of a program, then the rest. -/
theorem wp_then {α : Type} {Q : α → sProp 𝕄} {P R : sProp 𝕄} {p : Prog (TpuEff nD τ sig (Elt F) Λ₀ (.scVector (cV L) (jV L))) PUnit}
    (h : P ⊢ wp frame (wpE (defs₀ (F := F)) 𝒱₀ (thr d L) none) Set.univ p fun _ => R)
    (k : PUnit → Prog (TpuEff nD τ sig (Elt F) Λ₀ (.scVector (cV L) (jV L))) α) :
    P ⊢ iprop((R -∗ wp frame (wpE (defs₀ (F := F)) 𝒱₀ (thr d L) none) Set.univ (k ⟨⟩) Q)
      -∗ wp frame (wpE (defs₀ (F := F)) 𝒱₀ (thr d L) none) Set.univ (p >>= k) Q) := by
  rw [wp_bind]
  iintro HP; iintro HK
  iapply (wp_wand_r frame _ _)
  isplitl [HP]
  · iapply h; iexact HP
  · iintro %u HR
    iapply HK; iexact HR

set_option maxHeartbeats 1000000 in
/-- The task of a tile: its block of the result ends at the values of its pairs, all else as it was handed. -/
theorem tile_body (hF : (K (F := F)).Facts) (q : PosShare TreeShare) (TA TB : S125000x128.Idx → F .f32) (XA XB RA RB : S16384.Idx → BitVec 32)
    (f : S16384.Idx → F .f32) (hRA : ∀ j, (RA j).toNat < 125000) (hRB : ∀ j, (RB j).toNat < 125000)
    (O : CellTallies nD τ sig (HIx 1)) (W : Waits sig (HIx 1)) (hO : ∀ g, O g none = 0) :
    iprop(levAts (K (F := F)).L (K (F := F)).lev ∗ emp ∗ taskHeld d L q TA TB XA XB RA RB f
        ∗ scopedBufs (thr d L) ∗ scopedSems0 (thr d L) ∗ owes (thr d L) O W)
      ⊢ wp frame (wpE (defs₀ (F := F)) 𝒱₀ (thr d L) none) Set.univ
          (cc0_k (F := F) L idsA (Memref.isWhole_whole _) idsB (Memref.isWhole_whole _) rowsA (Memref.isWhole_whole _)
            rowsB (Memref.isWhole_whole _) tabA (Memref.isWhole_whole _) tabB (Memref.isWhole_whole _) outM (Memref.isWhole_whole _)
            iA (Memref.isWhole_whole _) iB (Memref.isWhole_whole _) rA (Memref.isWhole_whole _) rB (Memref.isWhole_whole _)
            bufA (Memref.isWhole_whole _) bufB (Memref.isWhole_whole _) acc (Memref.isWhole_whole _)
            cc0_scratch7 cc0_scratch8 cc0_scoped0 cc0_scoped1 cc0_scoped2 cc0_scoped3 cc0_scoped4)
          fun _ => iprop(taskHeld d L q TA TB XA XB RA RB (lookupVal TA TB XA XB RA RB)
            ∗ scopedBufs (thr d L) ∗ scopedSems0 (thr d L)
            ∗ ∃ W', ⌜∀ p ∈ W', p ∈ W ∨ p.2 = none⌝ ∗ owes (thr d L) O W') := by
  rw [tile_eq, (K (F := F)).scopedBufs_V hF d (cV L) (jV L), SparseCore.Cfg.scopedSems0_V (Val := Elt F) d (cV L) (jV L), ownSems0_V, ownBufs_V]
  simp only [tileSems, tileBufs, List.map_cons, List.map_nil, List.foldr_cons, List.foldr_nil]
  iintro ⟨#Hlv, -, ⟨HXA, HXB, HRA, HRB, HTA, HTB, Hout⟩, ⟨⟨%f0, H0⟩, ⟨%f1, H1⟩, ⟨%f2, H2⟩, ⟨%f3, H3⟩, ⟨%f4, H4⟩, ⟨%f5, H5⟩, ⟨%f6, H6⟩, Hbufs⟩,
    ⟨S7, S8, S0, S1, S2, S3, S4, Hsems⟩, HO⟩
  ihave HO := (show (owes (thr d L) O W : sProp 𝕄) ⊢ owesOwn (F := F) d L O W by
    iintro H; iexists W; isplitr
    · ipureintro; exact fun p hp => .inl hp
    · iexact H) $$ HO
  iapply (wp_copyIn d L idsA iA (Memref.isWhole_whole _) cc0_scoped0.sem (by decide) (XA : Buf (Elt F) (idsA.view.loc (thr d L))) f0 hO) $$ [HXA H0 S0 HO]
  · rw [set_idsA]
    isplitr; · iexact Hlv
    isplitl [HXA]; · iexact HXA
    isplitl [H0]; · iexact H0
    isplitl [S0]; · iexact S0
    iexact HO
  rw [copied_iA, set_idsA]
  iintro ⟨HXA, H0, S0, HO⟩
  iapply (wp_copyIn d L idsB iB (Memref.isWhole_whole _) cc0_scoped1.sem (by decide) (XB : Buf (Elt F) (idsB.view.loc (thr d L))) f1 hO) $$ [HXB H1 S1 HO]
  · rw [set_idsB]
    isplitr; · iexact Hlv
    isplitl [HXB]; · iexact HXB
    isplitl [H1]; · iexact H1
    isplitl [S1]; · iexact S1
    iexact HO
  rw [copied_iB, set_idsB]
  iintro ⟨HXB, H1, S1, HO⟩
  iapply (wp_copyIn d L rowsA rA (Memref.isWhole_whole _) cc0_scoped2.sem (by decide) (RA : Buf (Elt F) (rowsA.view.loc (thr d L))) f2 hO) $$ [HRA H2 S2 HO]
  · rw [set_rowsA]
    isplitr; · iexact Hlv
    isplitl [HRA]; · iexact HRA
    isplitl [H2]; · iexact H2
    isplitl [S2]; · iexact S2
    iexact HO
  rw [copied_rA, set_rowsA]
  iintro ⟨HRA, H2, S2, HO⟩
  iapply (wp_copyIn d L rowsB rB (Memref.isWhole_whole _) cc0_scoped3.sem (by decide) (RB : Buf (Elt F) (rowsB.view.loc (thr d L))) f3 hO) $$ [HRB H3 S3 HO]
  · rw [set_rowsB]
    isplitr; · iexact Hlv
    isplitl [HRB]; · iexact HRB
    isplitl [H3]; · iexact H3
    isplitl [S3]; · iexact S3
    iexact HO
  rw [copied_rB, set_rowsB]
  iintro ⟨HRB, H3, S3, HO⟩
  -- the first half's rows, and its values
  iapply (wp_fetchBoth d L TA TB (blockOf L RA) (blockOf L RB) (fun _ => hRA _) (fun _ => hRB _) f4 f5 ![0] inb_S512_S256_0 hO)
    $$ [HTA HTB H2 H3 H4 H5 S7 S8 HO]
  · isplitr; · iexact Hlv
    isplitr [HO]
    · isplitl [HTA H4 H2 S7]
      · isplitl [HTA]; · iexact HTA
        isplitl [H4]; · iexact H4
        isplitl [H2]; · iexact H2
        iexact S7
      · isplitl [HTB]; · iexact HTB
        isplitl [H5]; · iexact H5
        isplitl [H3]; · iexact H3
        iexact S8
    · iexact HO
  iintro ⟨⟨⟨HTA, H4, H2, S7⟩, ⟨HTB, H5, H3, S8⟩⟩, HO⟩
  iapply (wp_then d L (wp_loop1 d L TA TB (blockOf L XA) (blockOf L XB) (blockOf L RA) (blockOf L RB))) $$ [H0 H1 H4 H5 H6]
  · iexists f6
    isplitl
    · isplitl [H0]; · iexact H0
      isplitl [H1]; · iexact H1
      isplitl [H4 H5]
      · isplitl [H4]; · iexact H4
        iexact H5
      iexact H6
    · ipureintro; exact fun j hj => absurd hj (Nat.not_lt_zero _)
  iintro ⟨%g1, ⟨H0, H1, ⟨H4, H5⟩, H6⟩, %hg1⟩
  -- the second half's
  iapply (wp_fetchBoth d L TA TB (blockOf L RA) (blockOf L RB) (fun _ => hRA _) (fun _ => hRB _) _ _ ![256] inb_S512_S256_256 hO)
    $$ [HTA HTB H2 H3 H4 H5 S7 S8 HO]
  · isplitr; · iexact Hlv
    isplitr [HO]
    · isplitl [HTA H4 H2 S7]
      · isplitl [HTA]; · iexact HTA
        isplitl [H4]; · iexact H4
        isplitl [H2]; · iexact H2
        iexact S7
      · isplitl [HTB]; · iexact HTB
        isplitl [H5]; · iexact H5
        isplitl [H3]; · iexact H3
        iexact S8
    · iexact HO
  iintro ⟨⟨⟨HTA, H4, H2, S7⟩, ⟨HTB, H5, H3, S8⟩⟩, HO⟩
  iapply (wp_then d L (wp_loop2 d L TA TB (blockOf L XA) (blockOf L XB) (blockOf L RA) (blockOf L RB))) $$ [H0 H1 H4 H5 H6]
  · iexists g1
    isplitl
    · isplitl [H0]; · iexact H0
      isplitl [H1]; · iexact H1
      isplitl [H4 H5]
      · isplitl [H4]; · iexact H4
        iexact H5
      iexact H6
    · ipureintro; exact hg1
  iintro ⟨%g2, ⟨H0, H1, ⟨H4, H5⟩, H6⟩, %hg2⟩
  obtain rfl : g2 = tileVal TA TB (blockOf L XA) (blockOf L XB) (blockOf L RA) (blockOf L RB) := funext fun j => hg2 j (j 0).isLt
  -- the block of the result
  iapply (wp_copyOut d L _ f hO) $$ [H6 Hout S4 HO]
  · rw [set_outM]
    isplitr; · iexact Hlv
    isplitl [H6]; · iexact H6
    isplitl [Hout]; · iexact Hout
    isplitl [S4]; · iexact S4
    iexact HO
  rw [set_outM]
  iintro ⟨H6, Hout, S4, HO⟩
  ihave Hout := (Entails.of_eq (pointsTo_congr (written_out L TA TB XA XB RA RB f))) $$ Hout
  rw [Prog.pure_eq_ret, wp_ret]
  imodintro
  isplitl [HXA HXB HRA HRB HTA HTB Hout]
  · isplitl [HXA]; · iexact HXA
    isplitl [HXB]; · iexact HXB
    isplitl [HRA]; · iexact HRA
    isplitl [HRB]; · iexact HRB
    isplitl [HTA]; · iexact HTA
    isplitl [HTB]; · iexact HTB
    iexact Hout
  isplitl [H0 H1 H2 H3 H4 H5 H6 Hbufs]
  · isplitl [H0]; · iexists _; iexact H0
    isplitl [H1]; · iexists _; iexact H1
    isplitl [H2]; · iexists _; iexact H2
    isplitl [H3]; · iexists _; iexact H3
    isplitl [H4]; · iexists _; iexact H4
    isplitl [H5]; · iexists _; iexact H5
    isplitl [H6]; · iexists _; iexact H6
    iexact Hbufs
  isplitl [S0 S1 S2 S3 S4 S7 S8 Hsems]
  · isplitl [S7]; · iexact S7
    isplitl [S8]; · iexact S8
    isplitl [S0]; · iexact S0
    isplitl [S1]; · iexact S1
    isplitl [S2]; · iexact S2
    isplitl [S3]; · iexact S3
    isplitl [S4]; · iexact S4
    iexact Hsems
  iexact HO

end Cert.Proof.Lookup
-- ==== Proof.Host.lean ====
/-
  The arrays that the host code makes before the call: either row of the ids, the rows they name in the tables read eight
  embeddings a row, and the tables read so.
-/
module

public import proofs.«01_k».proof.Proof.TileRun
public import Idealize.ShloMosaic.Lib.Pipeline.Frame

@[expose] public section

set_option maxRecDepth 16384

noncomputable section

namespace Cert.Proof.Lookup

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.StableHlo (held after seq)

variable {F : FTy → Type} [FloatOps F]

local notation "𝕄" => MT nD τ sig (HIx 1) (Elt F) ℕ UU ℕ

/-! ## What the host code computes -/

/-- The first ids. -/
def firstIds (I : S2x16384.Idx → BitVec 32) : S16384.Idx → BitVec 32 :=
  shapeCast S16384 (extractStridedSlice S1x16384 ![0, 0] I slices_S2x16384_S1x16384_0_0) shapeCasts_S1x16384_S16384
/-- The second ids. -/
def secondIds (I : S2x16384.Idx → BitVec 32) : S16384.Idx → BitVec 32 :=
  shapeCast S16384 (extractStridedSlice S1x16384 ![1, 0] I slices_S2x16384_S1x16384_1_0) shapeCasts_S1x16384_S16384
/-- The rows that ids name in a table of eight embeddings a row. -/
def rowsOf (X : S16384.Idx → BitVec 32) : S16384.Idx → BitVec 32 :=
  Host.shrsi X (broadcastInDim S16384 ![] bcast_S_S16384 (constantI S_ 32 3#32))
/-- A table read eight embeddings a row. -/
def wide {α : Type} (A : S1000000x16.Idx → α) : S125000x128.Idx → α := shapeCast S125000x128 A shapeCasts_S1000000x16_S125000x128

/-- The operations before the call. -/
def hostOps : List (HloOp τ sig (Elt F)) :=
  [StableHlo.unary main_arg0 main_v0 ((extractStridedSlice S1x16384 ![0, 0] · slices_S2x16384_S1x16384_0_0) : (⟨S2x16384, .i32⟩ : BufTy).Contents (Elt F) → (⟨S1x16384, .i32⟩ : BufTy).Contents (Elt F)),
   StableHlo.reshape main_v0 main_v1 (rfl : (.i32 : EltTy) = .i32) shapeCasts_S1x16384_S16384,
   StableHlo.unary main_arg0 main_v2 ((extractStridedSlice S1x16384 ![1, 0] · slices_S2x16384_S1x16384_1_0) : (⟨S2x16384, .i32⟩ : BufTy).Contents (Elt F) → (⟨S1x16384, .i32⟩ : BufTy).Contents (Elt F)),
   StableHlo.reshape main_v2 main_v3 (rfl : (.i32 : EltTy) = .i32) shapeCasts_S1x16384_S16384,
   StableHlo.reshape main_arg1 main_v4 (rfl : (.f32 : EltTy) = .f32) shapeCasts_S1000000x16_S125000x128,
   StableHlo.reshape main_arg2 main_v5 (rfl : (.f32 : EltTy) = .f32) shapeCasts_S1000000x16_S125000x128,
   StableHlo.nullary main_c (constantI S_ 32 3#32),
   StableHlo.unary main_c main_v6 (broadcastInDim S16384 ![] bcast_S_S16384 : (⟨S_, .i32⟩ : BufTy).Contents (Elt F) → (⟨S16384, .i32⟩ : BufTy).Contents (Elt F)),
   StableHlo.binary main_v1 main_v6 main_v7 (Host.shrsi : (⟨S16384, .i32⟩ : BufTy).Contents (Elt F) → (⟨S16384, .i32⟩ : BufTy).Contents (Elt F) → (⟨S16384, .i32⟩ : BufTy).Contents (Elt F)),
   StableHlo.nullary main_c_0 (constantI S_ 32 3#32),
   StableHlo.unary main_c_0 main_v8 (broadcastInDim S16384 ![] bcast_S_S16384 : (⟨S_, .i32⟩ : BufTy).Contents (Elt F) → (⟨S16384, .i32⟩ : BufTy).Contents (Elt F)),
   StableHlo.binary main_v3 main_v8 main_v9 (Host.shrsi : (⟨S16384, .i32⟩ : BufTy).Contents (Elt F) → (⟨S16384, .i32⟩ : BufTy).Contents (Elt F) → (⟨S16384, .i32⟩ : BufTy).Contents (Elt F))]

/-- The program is those operations, then the call. -/
theorem main_eq (d : Dev nD) : main (F := F) d = (seq hostOps >>= fun _ => ((K (F := F)).run d 0 >>= fun _ => pure ⟨⟩)) := by
  unfold main hostOps
  rfl

/-! ## What the operations leave -/

section
variable (W : Valuation τ sig (Elt F))

theorem after_v1 : after hostOps W (Proc.devRef .tc main_v1) = firstIds (W (Proc.devRef .tc main_arg0)) := by
  unfold hostOps; after_results; rfl
theorem after_v3 : after hostOps W (Proc.devRef .tc main_v3) = secondIds (W (Proc.devRef .tc main_arg0)) := by
  unfold hostOps; after_results; rfl
theorem after_v4 : after hostOps W (Proc.devRef .tc main_v4) = wide (W (Proc.devRef .tc main_arg1)) := by
  unfold hostOps; after_results; rfl
theorem after_v5 : after hostOps W (Proc.devRef .tc main_v5) = wide (W (Proc.devRef .tc main_arg2)) := by
  unfold hostOps; after_results; rfl
theorem after_v7 : after hostOps W (Proc.devRef .tc main_v7) = rowsOf (firstIds (W (Proc.devRef .tc main_arg0))) := by
  unfold hostOps; after_results; rfl
theorem after_v9 : after hostOps W (Proc.devRef .tc main_v9) = rowsOf (secondIds (W (Proc.devRef .tc main_arg0))) := by
  unfold hostOps; after_results; rfl
theorem after_v10 : after hostOps W (Proc.devRef .tc main_v10) = W (Proc.devRef .tc main_v10) := by
  unfold hostOps; after_results
theorem after_arg0 : after hostOps W (Proc.devRef .tc main_arg0) = W (Proc.devRef .tc main_arg0) := by
  unfold hostOps; after_results
theorem after_arg1 : after hostOps W (Proc.devRef .tc main_arg1) = W (Proc.devRef .tc main_arg1) := by
  unfold hostOps; after_results
theorem after_arg2 : after hostOps W (Proc.devRef .tc main_arg2) = W (Proc.devRef .tc main_arg2) := by
  unfold hostOps; after_results

end

/-! ## The rows named are rows of the tables -/

/-- The row a nonnegative id names: its eighth. -/
theorem rowsOf_toNat (X : S16384.Idx → BitVec 32) (j : S16384.Idx) (h : (X j).toNat < 1000000) : (rowsOf X j).toNat = (X j).toNat / 8 := by
  have e : rowsOf X j = (X j).sshiftRight 3 := rfl
  have hm : (X j).msb = false := by rw [BitVec.msb_eq_decide]; simp; omega
  rw [e, BitVec.sshiftRight_eq_of_msb_false hm, BitVec.toNat_ushiftRight, Nat.shiftRight_eq_div_pow]

theorem firstIds_lt {I : S2x16384.Idx → BitVec 32} (h : ∀ j, (I j).toNat < 1000000) (j : S16384.Idx) : (firstIds I j).toNat < 1000000 := h _
theorem secondIds_lt {I : S2x16384.Idx → BitVec 32} (h : ∀ j, (I j).toNat < 1000000) (j : S16384.Idx) : (secondIds I j).toNat < 1000000 := h _

theorem rowsOf_lt {X : S16384.Idx → BitVec 32} (h : ∀ j, (X j).toNat < 1000000) (j : S16384.Idx) : (rowsOf X j).toNat < 125000 := by
  rw [rowsOf_toNat X j (h j)]; have := h j; omega

/-- The result, as a function of the arguments. -/
def kernelVal (I : S2x16384.Idx → BitVec 32) (A B : S1000000x16.Idx → F .f32) : S16384.Idx → F .f32 :=
  lookupVal (wide A) (wide B) (firstIds I) (secondIds I) (rowsOf (firstIds I)) (rowsOf (secondIds I))

end Cert.Proof.Lookup
-- ==== Proof.Blocks.lean ====
/-
  How the call's operands fall to the tiles: the four lists and the result in thirty-two blocks of 512, either table in
  thirty-two shares.
-/
module

public import proofs.«01_k».proof.Proof.Host

@[expose] public section

set_option maxRecDepth 16384

noncomputable section

namespace Cert.Proof.Lookup

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

/-- The coordinates of a SparseCore and a vector subcore. -/
def coordsV (c : Fin (grid0.bound 0)) (s : Fin (grid0.bound 1)) : grid0.Coords :=
  fun | 0 => c | 1 => s | ⟨_ + 2, h⟩ => absurd h (Nat.not_lt.2 (Nat.le_add_left _ _))

/-- The block of a SparseCore and a vector subcore. -/
def tileBlk (p : Fin 2 × Fin 16) : Finset S16384.Idx := blkSet (coordsV p.1 p.2)

theorem mem_tileBlk (p : Fin 2 × Fin 16) (x : S16384.Idx) : x ∈ tileBlk p ↔ (x 0).val / 512 = 2 * p.2.val + p.1.val := by
  have e : tileBlk p = (Rect.unit (s := S16384) (k0_off1 (coordsV p.1 p.2)) S512.size (k0_off1_inb _)).set := rfl
  rw [e, Rect.mem_set_unit]
  have h0 : k0_off1 (coordsV p.1 p.2) 0 = 1024 * p.2.val + 512 * p.1.val := by rw [k0_off1_eq]; rfl
  have h1 : S512.size 0 = 512 := rfl
  constructor
  · intro h
    have := h 0
    rw [h0, h1] at this
    omega
  · intro h a
    match a with
    | 0 => rw [h0, h1]; omega

theorem tileBlk_disjoint : ∀ p ∈ (Finset.univ : Finset (Fin 2 × Fin 16)), ∀ p' ∈ (Finset.univ : Finset (Fin 2 × Fin 16)), p ≠ p' →
    Disjoint (tileBlk p) (tileBlk p') := by
  intro p _ p' _ hne
  refine Finset.disjoint_left.mpr fun x h h' => hne ?_
  rw [mem_tileBlk] at h h'
  have h1 := p.1.isLt
  have h2 := p'.1.isLt
  exact Prod.ext (Fin.ext (by omega)) (Fin.ext (by omega))

theorem tileBlk_cover : (Finset.univ : Finset (Fin 2 × Fin 16)).biUnion tileBlk = Finset.univ := by
  refine Finset.eq_univ_iff_forall.mpr fun x => Finset.mem_biUnion.mpr ?_
  have hx : (x 0).val < 16384 := (x 0).isLt
  refine ⟨(⟨(x 0).val / 512 % 2, by omega⟩, ⟨(x 0).val / 1024, by omega⟩), Finset.mem_univ _, (mem_tileBlk _ _).mpr ?_⟩
  show (x 0).val / 512 = 2 * ((x 0).val / 1024) + (x 0).val / 512 % 2
  omega

/-- A tile's share of a table. -/
def tileShare (c : Fin 2) (i : Fin 16) : PosShare TreeShare :=
  Idealize.ShloMosaic.pieceOf (Idealize.ShloMosaic.pieceOf fullShare 2 (by decide) c) 16 (by decide) i

variable (d : Dev nD)

theorem idsA_blocks (f : Buf (Elt F) (idsALoc d)) : (idsALoc d ↦{fullShare} f : sProp 𝕄)
    = bigSep Finset.univ fun c : Fin 2 => bigSep Finset.univ fun i : Fin 16 => idsALoc d ↦[blkSet (coordsV c i)]{fullShare} f := by
  refine Eq.trans ?_ (bigSep_univ_prod fun p : Fin 2 × Fin 16 => (idsALoc d ↦[tileBlk p]{fullShare} f : sProp 𝕄))
  rw [← pointsTo_biUnion Finset.univ (ℓ := idsALoc d) tileBlk tileBlk_disjoint, tileBlk_cover]
theorem idsB_blocks (f : Buf (Elt F) (idsBLoc d)) : (idsBLoc d ↦{fullShare} f : sProp 𝕄)
    = bigSep Finset.univ fun c : Fin 2 => bigSep Finset.univ fun i : Fin 16 => idsBLoc d ↦[blkSet (coordsV c i)]{fullShare} f := by
  refine Eq.trans ?_ (bigSep_univ_prod fun p : Fin 2 × Fin 16 => (idsBLoc d ↦[tileBlk p]{fullShare} f : sProp 𝕄))
  rw [← pointsTo_biUnion Finset.univ (ℓ := idsBLoc d) tileBlk tileBlk_disjoint, tileBlk_cover]
theorem rowsA_blocks (f : Buf (Elt F) (rowsALoc d)) : (rowsALoc d ↦{fullShare} f : sProp 𝕄)
    = bigSep Finset.univ fun c : Fin 2 => bigSep Finset.univ fun i : Fin 16 => rowsALoc d ↦[blkSet (coordsV c i)]{fullShare} f := by
  refine Eq.trans ?_ (bigSep_univ_prod fun p : Fin 2 × Fin 16 => (rowsALoc d ↦[tileBlk p]{fullShare} f : sProp 𝕄))
  rw [← pointsTo_biUnion Finset.univ (ℓ := rowsALoc d) tileBlk tileBlk_disjoint, tileBlk_cover]
theorem rowsB_blocks (f : Buf (Elt F) (rowsBLoc d)) : (rowsBLoc d ↦{fullShare} f : sProp 𝕄)
    = bigSep Finset.univ fun c : Fin 2 => bigSep Finset.univ fun i : Fin 16 => rowsBLoc d ↦[blkSet (coordsV c i)]{fullShare} f := by
  refine Eq.trans ?_ (bigSep_univ_prod fun p : Fin 2 × Fin 16 => (rowsBLoc d ↦[tileBlk p]{fullShare} f : sProp 𝕄))
  rw [← pointsTo_biUnion Finset.univ (ℓ := rowsBLoc d) tileBlk tileBlk_disjoint, tileBlk_cover]
theorem out_blocks (f : Buf (Elt F) (outLoc d)) : (outLoc d ↦{fullShare} f : sProp 𝕄)
    = bigSep Finset.univ fun c : Fin 2 => bigSep Finset.univ fun i : Fin 16 => outLoc d ↦[blkSet (coordsV c i)]{fullShare} f := by
  refine Eq.trans ?_ (bigSep_univ_prod fun p : Fin 2 × Fin 16 => (outLoc d ↦[tileBlk p]{fullShare} f : sProp 𝕄))
  rw [← pointsTo_biUnion Finset.univ (ℓ := outLoc d) tileBlk tileBlk_disjoint, tileBlk_cover]

/-- An array in shares, one to each tile. -/
theorem table_shares {ℓ : Loc nD τ sig} (f : Buf (Elt F) ℓ) : (ℓ ↦{fullShare} f : sProp 𝕄)
    = bigSep Finset.univ fun c : Fin 2 => bigSep Finset.univ fun i : Fin 16 => ℓ ↦{tileShare c i} f := by
  rw [Idealize.ShloMosaic.pointsTo_piecesOf Finset.univ f (show 0 < 2 by decide) fullShare]
  exact bigSep_congr fun c _ => Idealize.ShloMosaic.pointsTo_piecesOf Finset.univ f (show 0 < 16 by decide) _

/-- The call's operands, whole. -/
abbrev callHeld (TA TB : S125000x128.Idx → F .f32) (XA XB RA RB : S16384.Idx → BitVec 32) (f : S16384.Idx → F .f32) : sProp 𝕄 :=
  iprop((idsALoc d ↦{fullShare} (XA : Buf (Elt F) (idsALoc d))) ∗ (idsBLoc d ↦{fullShare} (XB : Buf (Elt F) (idsBLoc d)))
    ∗ (rowsALoc d ↦{fullShare} (RA : Buf (Elt F) (rowsALoc d))) ∗ (rowsBLoc d ↦{fullShare} (RB : Buf (Elt F) (rowsBLoc d)))
    ∗ (tabALoc d ↦{fullShare} (TA : Buf (Elt F) (tabALoc d))) ∗ (tabBLoc d ↦{fullShare} (TB : Buf (Elt F) (tabBLoc d)))
    ∗ (outLoc d ↦{fullShare} (f : Buf (Elt F) (outLoc d))))

/-- They are what the tiles are handed. -/
theorem callHeld_eq (TA TB : S125000x128.Idx → F .f32) (XA XB RA RB : S16384.Idx → BitVec 32) (f : S16384.Idx → F .f32) :
    callHeld d TA TB XA XB RA RB f
      = bigSep Finset.univ fun c : Fin 2 => bigSep Finset.univ fun i : Fin 16 =>
          taskHeld d (coordsV c i) (tileShare c i) TA TB XA XB RA RB f := by
  simp only [bigSep_sep']
  unfold callHeld
  rw [idsA_blocks, idsB_blocks, rowsA_blocks, rowsB_blocks, table_shares, table_shares, out_blocks]

end Cert.Proof.Lookup
-- ==== Proof.Launch.lean ====
/-
  The whole program, run: the host code, the call over the thirty-two tiles, the result. It ends with the arguments as they
  were, every semaphore at zero and the result at `kernelVal` of the arguments, over any float values.
-/
module

public import proofs.«01_k».proof.Proof.Blocks

@[expose] public section

set_option maxRecDepth 16384

noncomputable section

namespace Cert.Proof.Lookup

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held after seq)
open Idealize.ShloMosaic.Tactic

variable {F : FTy → Type} [FloatOps F]

local notation "𝕄" => MT nD τ sig (HIx 1) (Elt F) ℕ UU ℕ

variable (m : (ℓ : Loc nD τ sig) → Buf (Elt F) ℓ) (ρ : Dev nD → PrngReg)

/-- What the proof asks of the launch memory: every id names a row of the tables. -/
def PreOK : Prop := ∀ (d : Dev nD) (j : S2x16384.Idx), (m (arg0Loc d) j : BitVec 32).toNat < 1000000

/-! ## What the handshakes carry -/

/-- What a tile holds at the launch memory, its block of the result at `f`. -/
abbrev tilePay (d : Dev nD) (c : Fin 2) (i : Fin 16) (f : S16384.Idx → F .f32) : sProp 𝕄 :=
  taskHeld d (coordsV c i) (tileShare c i) (wide (m (arg1Loc d))) (wide (m (arg2Loc d)))
    (firstIds (m (arg0Loc d))) (secondIds (m (arg0Loc d))) (rowsOf (firstIds (m (arg0Loc d)))) (rowsOf (secondIds (m (arg0Loc d)))) f

/-- The result at the launch memory's arguments. -/
abbrev finalOut (d : Dev nD) : S16384.Idx → F .f32 := kernelVal (m (arg0Loc d)) (m (arg1Loc d)) (m (arg2Loc d))

/-- A SparseCore takes what its tiles take, and hands back what they hand back. -/
def P : (K (F := F)).Pay (nD := nD) (Val := Elt F) (Name := ℕ) (U := UU) where
  st := fun q d c => match q with | 0 => bigSep Finset.univ fun i : Fin 16 => tilePay m d c i (m (outLoc d))
  dn := fun q d c => match q with | 0 => bigSep Finset.univ fun i : Fin 16 => tilePay m d c i (finalOut m d)
  go := fun q d c i => match q with | 0 => tilePay m d c i (m (outLoc d))
  td := fun q d c i => match q with | 0 => tilePay m d c i (finalOut m d)
  x := fun _ _ => iprop(emp)

instance P_storable : (P (F := F) m).IsStorable where
  st q d c := match q with
    | 0 => (inferInstance : BI.Storable (upEmb : UEmb _ 𝕄) (bigSep Finset.univ fun i : Fin 16 => tilePay m d c i (m (outLoc d))))
  dn q d c := match q with
    | 0 => (inferInstance : BI.Storable (upEmb : UEmb _ 𝕄) (bigSep Finset.univ fun i : Fin 16 => tilePay m d c i (finalOut m d)))
  go q d c i := match q with
    | 0 => (inferInstance : BI.Storable (upEmb : UEmb _ 𝕄) (tilePay m d c i (m (outLoc d))))
  td q d c i := match q with
    | 0 => (inferInstance : BI.Storable (upEmb : UEmb _ 𝕄) (tilePay m d c i (finalOut m d)))

/-! ## The obligation of a tile -/

theorem defs₀_vector (c : Fin τ.nSC) (s : Fin τ.nSub) :
    defs₀ (F := F) (.scVector c s) 0 ()
      = SparseCore.onTile hcore0 hsub0 (fun c s => cc0_k (coordsV c s) idsA (Memref.isWhole_whole _) idsB (Memref.isWhole_whole _) rowsA (Memref.isWhole_whole _)
          rowsB (Memref.isWhole_whole _) tabA (Memref.isWhole_whole _) tabB (Memref.isWhole_whole _) outM (Memref.isWhole_whole _)
          iA (Memref.isWhole_whole _) iB (Memref.isWhole_whole _) rA (Memref.isWhole_whole _) rB (Memref.isWhole_whole _)
          bufA (Memref.isWhole_whole _) bufB (Memref.isWhole_whole _) acc (Memref.isWhole_whole _)
          cc0_scratch7 cc0_scratch8 cc0_scoped0 cc0_scoped1 cc0_scoped2 cc0_scoped3 cc0_scoped4) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hF : (K (F := F)).Facts) (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coordsV ⟨_, hci.1⟩ ⟨_, hci.2⟩) hF (tileShare c i) (wide (m (arg1Loc d))) (wide (m (arg2Loc d)))
    (firstIds (m (arg0Loc d))) (secondIds (m (arg0Loc d))) (rowsOf (firstIds (m (arg0Loc d)))) (rowsOf (secondIds (m (arg0Loc d))))
    (m (outLoc d)) (rowsOf_lt (firstIds_lt (hpre d))) (rowsOf_lt (secondIds_lt (hpre d))) O W hO).trans (wp_mono frame _ _ fun _ => obl_post)

theorem vecSplit : (K (F := F)).VecSplit' (P m) 0 := by
  intro d c
  show (bigSep Finset.univ fun i : Fin 16 => tilePay m d c i (m (outLoc d))) ⊢ |={Set.univ}=> iprop(
      (bigSep Finset.univ fun i : Fin 16 => tilePay m d c i (m (outLoc d)))
      ∗ ((bigSep Finset.univ fun i : Fin 16 => tilePay m d c i (finalOut m d)) -∗ bigSep Finset.univ fun i : Fin 16 => tilePay m d c i (finalOut m d)))
  iintro H; imodintro
  isplitl [H]; · iexact H
  iintro H; iexact H

/-! ## The launch's ghost state -/

def u₀ : UU := (initOf (K (F := F)).hsCells (K (F := F)).hsToks, 1)

/-- Nothing, once for each of a set, is nothing. -/
theorem bigSep_none {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_none]; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_none]
  iempintro

/-! ## The host code and the call -/

/-- The arrays that the claims and the call name. -/
abbrev namedBufs : List (Ref sig .tc) :=
  [main_arg0, main_arg1, main_arg2, main_v1, main_v3, main_v7, main_v9, main_v4, main_v5, main_v10]

theorem namedBufs_nodup : namedBufs.Nodup := by decide

/-- The launch memory of a device. -/
def V0 (d : Dev nD) : Valuation τ sig (Elt F) := fun b => m (d, b)

/-- The host's arrays, the named ones out. -/
theorem held_named (d : Dev nD) (W : Valuation τ sig (Elt F)) :
    (held (d.tc : Thread nD τ) (Pipeline.ucRefs τ sig) W : sProp 𝕄)
      = (namedBufs.map (Proc.devRef (τ := τ) .tc)).foldr (fun b R => BIBase.sep (((d, b) : Loc nD τ sig) ↦{fullShare} W b) R)
          (bigSep (Pipeline.ucRefs τ sig \ (namedBufs.map (Proc.devRef (τ := τ) .tc)).toFinset) fun b => ((d, b) : Loc nD τ sig) ↦{fullShare} W b) := by
  unfold StableHlo.held
  refine bigSep_list _ _ _ (List.Nodup.map (Proc.devRef_injective _) namedBufs_nodup) fun x hx => ?_
  obtain ⟨b, hb, rfl⟩ := List.mem_map.mp hx
  refine Finset.mem_filter.mpr ⟨StableHlo.devRef_mem_tcRefs b, ?_⟩
  have h : ∀ b ∈ (namedBufs : List (Ref sig .tc)), ¬ (Proc.devRef (τ := τ) .tc b).isScoped := by decide
  exact h b hb

/-- What the program leaves the claims. -/
abbrev FIN (d : Dev nD) : sProp 𝕄 :=
  iprop((arg0Loc d ↦{fullShare} m (arg0Loc d)) ∗ (arg1Loc d ↦{fullShare} m (arg1Loc d)) ∗ (arg2Loc d ↦{fullShare} m (arg2Loc d))
    ∗ outLoc d ↦{fullShare} (finalOut m d : Buf (Elt F) (outLoc d)))

theorem st0_eq (d : Dev nD) : (bigSep Finset.univ fun c : Fin ((K (F := F)).nCore 0) => (P m).st 0 d c)
    = callHeld d (wide (m (arg1Loc d))) (wide (m (arg2Loc d))) (firstIds (m (arg0Loc d))) (secondIds (m (arg0Loc d)))
        (rowsOf (firstIds (m (arg0Loc d)))) (rowsOf (secondIds (m (arg0Loc d)))) (m (outLoc d)) :=
  (callHeld_eq d _ _ _ _ _ _ _).symm
theorem dn0_eq (d : Dev nD) : (bigSep Finset.univ fun c : Fin ((K (F := F)).nCore 0) => (P m).dn 0 d c)
    = callHeld d (wide (m (arg1Loc d))) (wide (m (arg2Loc d))) (firstIds (m (arg0Loc d))) (secondIds (m (arg0Loc d)))
        (rowsOf (firstIds (m (arg0Loc d)))) (rowsOf (secondIds (m (arg0Loc d)))) (finalOut m d) :=
  (callHeld_eq d _ _ _ _ _ _ _).symm

theorem hostOps_sub : ∀ op ∈ (hostOps : List (HloOp τ sig (Elt F))), op.bufs ⊆ Pipeline.ucRefs τ sig := fun op h => by
  refine Pipeline.sub_ucRefs op ?_
  unfold hostOps at h
  simp only [List.mem_cons, List.not_mem_nil, or_false] at h
  rcases h with rfl | rfl | rfl | rfl | rfl | rfl | rfl | rfl | rfl | rfl | rfl | rfl <;> simp
theorem hostOps_fresh : ∀ op ∈ (hostOps : List (HloOp τ sig (Elt F))), op.fresh = ∅ := fun op h => by
  unfold hostOps at h
  simp only [List.mem_cons, List.not_mem_nil, or_false] at h
  rcases h with rfl | rfl | rfl | rfl | rfl | rfl | rfl | rfl | rfl | rfl | rfl | rfl <;> rfl

set_option maxHeartbeats 1000000 in
/-- The program on a device's TensorCore: the host code, the call; the arguments kept, the result at its value. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [show unscopedBufs d (fun b => m ((SparseCore.T d).loc b)) = held (d.tc : Thread nD τ) (Pipeline.ucRefs τ sig) (V0 m d)
    from Pipeline.unscopedBufs_held d (V0 m d), main_eq]
  iintro ⟨#Hctx, Hst, ⟨Hb, Hheld, Hts, -⟩, -⟩
  iapply (StableHlo.wp_seq 𝒱 none Set.univ d (Pipeline.ucRefs τ sig) _ hostOps hostOps_sub hostOps_fresh (V0 m d)) $$ [Hb Hheld]
  · isplitl [Hb] <;> iassumption
  rw [held_named]
  simp only [namedBufs, List.map_cons, List.map_nil, List.foldr_cons, List.foldr_nil]
  rw [after_v1, after_v3, after_v4, after_v5, after_v7, after_v9, after_v10, after_arg0, after_arg1, after_arg2]
  iintro ⟨Hb, Ha0, Ha1, Ha2, H1, H3, H7, H9, H4, H5, H10, -⟩
  rw [wp_bind]
  iapply ((K (F := F)).wp_run (D (F := F)) 𝒱 (EH := EH) (P := P m) κ d 0) $$ [Hst Hb Ha0 Ha1 Ha2 H1 H3 H7 H9 H4 H5 H10 Hts]
  isplitr; · iexact Hctx
  isplitl [Hst]; · iexact Hst
  isplitl [H1 H3 H7 H9 H4 H5 H10]
  · rw [st0_eq]
    isplitl [H1]; · iexact H1
    isplitl [H3]; · iexact H3
    isplitl [H7]; · iexact H7
    isplitl [H9]; · iexact H9
    isplitl [H4]; · iexact H4
    isplitl [H5]; · iexact H5
    iexact H10
  iintro ⟨Hst, Hdn⟩
  ihave Hdn' := (Entails.of_eq (dn0_eq m d)) $$ Hdn
  icases Hdn' with ⟨-, -, -, -, -, -, Hout⟩
  rw [Prog.pure_eq_ret, wp_ret]
  imodintro
  isplitl [Hst]; · iexact Hst
  isplitr [Hb Hts]
  · isplitl [Ha0]; · iexact Ha0
    isplitl [Ha1]; · iexact Ha1
    isplitl [Ha2]; · iexact Ha2
    iexact Hout
  isplitl [Hb] <;> iassumption

/-! ## The run -/

/-- What holds of a device's memory at the end. -/
def fq (d : Dev nD) (s' : Phys nD τ sig (Elt F)) : Prop :=
  s'.mem.mem (arg0Loc d) = m (arg0Loc d) ∧ s'.mem.mem (arg1Loc d) = m (arg1Loc d) ∧ s'.mem.mem (arg2Loc d) = m (arg2Loc d)
    ∧ s'.mem.mem (outLoc d) = finalOut m d

theorem hfin (d : Dev nD) (s' : Phys nD τ sig (Elt F)) : iprop(FIN m d ∗ SI s') ⊢ (⌜fq m d s'⌝ : sProp 𝕄) := by
  iintro ⟨⟨H0, H1, H2, H3⟩, HSI⟩
  ihave H := (persistent_entails_right (SI_pointsTo_agree (st := s') (ℓ := arg0Loc d) (I := Finset.univ) (q := fullShare) (f := m (arg0Loc d)))) $$ [HSI H0]
  · isplitl [HSI] <;> iassumption
  icases H with ⟨%h0, HSI, -⟩
  ihave H := (persistent_entails_right (SI_pointsTo_agree (st := s') (ℓ := arg1Loc d) (I := Finset.univ) (q := fullShare) (f := m (arg1Loc d)))) $$ [HSI H1]
  · isplitl [HSI] <;> iassumption
  icases H with ⟨%h1, HSI, -⟩
  ihave H := (persistent_entails_right (SI_pointsTo_agree (st := s') (ℓ := arg2Loc d) (I := Finset.univ) (q := fullShare) (f := m (arg2Loc d)))) $$ [HSI H2]
  · isplitl [HSI] <;> iassumption
  icases H with ⟨%h2, HSI, -⟩
  ihave H := (SI_pointsTo_agree (st := s') (ℓ := outLoc d) (I := Finset.univ) (q := fullShare) (f := (finalOut m d : Buf (Elt F) (outLoc d)))) $$ [HSI H3]
  · isplitl [HSI] <;> iassumption
  icases H with %h3
  ipureintro
  exact ⟨funext fun i => h0 i (Finset.mem_univ i), funext fun i => h1 i (Finset.mem_univ i), funext fun i => h2 i (Finset.mem_univ i),
    funext fun i => h3 i (Finset.mem_univ i)⟩

/-- The program's end: the arguments unchanged, the result at its value, the semaphores at zero. -/
def QC : PUnit × MemSt nD τ sig (Elt F) → Prop := fun r =>
  (∀ d : Dev nD, r.2.mem (arg0Loc d) = m (arg0Loc d) ∧ r.2.mem (arg1Loc d) = m (arg1Loc d) ∧ r.2.mem (arg2Loc d) = m (arg2Loc d)
    ∧ r.2.mem (outLoc d) = finalOut m d) ∧ r.2.sem = fun _ => 0

/-- The program runs to that end. -/
theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.Lookup
-- ==== Proof.Range.lean ====
/-
  The range of the ids, read out of the precondition.
-/
module

public import proofs.«01_k».proof.Defs
public import proofs.«01_k».proof.Proof.Gen.Pre_in_range
public import Idealize.ShloMosaic.Lib.ReduceAll

@[expose] public section

noncomputable section

namespace Cert.Proof.Lookup

open Idealize.ShloMosaic

/-- A word at least 0 and below 1000000, read as signed, is below 1000000. -/
theorem word_lt {v : BitVec 32} (h : IntOp.andi (IntOp.cmpi .sge v 0#32) (IntOp.cmpi .slt v 1000000#32) = 1#1) : v.toNat < 1000000 := by
  have hand : ∀ p q : Bool, IntOp.andi (BitVec.ofBool p) (BitVec.ofBool q) = 1#1 → p = true ∧ q = true := by decide
  obtain ⟨h0, h1⟩ := hand _ _ h
  simp only [BitVec.sle_eq_decide, BitVec.slt_eq_decide, decide_eq_true_eq, BitVec.toInt_eq_toNat_cond, BitVec.toNat_ofNat] at h0 h1
  omega

/-- Where the precondition holds, every id is below 1000000. -/
theorem ids_lt {F : FTy → Type} [FloatOps F] {I : IVec Pre_in_range.S2x16384 32} {A B : FVec F Pre_in_range.S1000000x16 .f32}
    (h : Pre_in_range.fn I A B = fun _ => 1#1) (j : Pre_in_range.S2x16384.Idx) : (I j).toNat < 1000000 := by
  have e := congrFun h (Shape.Idx.first Pre_in_range.Gen.facts.h_S_)
  unfold Pre_in_range.fn at e
  haveI : Subsingleton Pre_in_range.S_.Idx := ⟨fun a b => funext fun i => i.elim0⟩
  exact word_lt (Host.reduce_andi_all _ _ _ _ _ e j)

end Cert.Proof.Lookup
-- ==== Proof.Take.lean ====
/-
  A row taken out of a table by the plain program: an id in range names its row, no id is wrapped, no row is filled.
-/
module

public import proofs.«01_k».proof.Proof.Gen.ReferenceIdeal
public import proofs.«01_k».proof.Proof.Gen.ReferenceIdeal.Run
public import Idealize.ShloMosaic.Lib.ReduceAll
public import Idealize.ShloMosaic.Lib.Routing.Ops

@[expose] public section

noncomputable section

namespace Cert.Proof.Plain

open Cert.ReferenceIdeal Cert.ReferenceIdeal.Gen

open Idealize.ShloMosaic

variable {F : FTy → Type} [FloatOps F]

/-- The row numbers: an id below 0 counted from the end. -/
def rowNums (X : IVec S16384 32) : IVec S16384x1 32 :=
  broadcastInDim S16384x1 ![0] bcast_S16384_S16384x1_0
    (select (cmpi .slt X (broadcastInDim S16384 ![] bcast_S_S16384 (constantI S_ 32 0#32)))
      (addi X (broadcastInDim S16384 ![] bcast_S_S16384 (constantI S_ 32 1000000#32))) X)

/-- Which row numbers name a row. -/
def known (X : IVec S16384 32) : IVec S16384 1 :=
  Host.reduce IntOp.andi
    (andi (cmpi .sge (rowNums X) (broadcastInDim S16384x1 ![] bcast_S_S16384x1 (constantI S_ 32 0#32)))
      (cmpi .sle (rowNums X) (broadcastInDim S16384x1 ![0, 1] bcast_S1x1_S16384x1_0_1 (broadcastInDim S1x1 ![1] bcast_S1_S1x1_1 (constantI S1 32 999999#32)))))
    (constantI S_ 1 1#1) reducesTo_S16384x1_S16384_d1 h_S_

/-- The rows taken, a number that names no row giving a filled one. -/
def taken (A : FVec F S1000000x16 .f32) (X : IVec S16384 32) : FVec F S16384x16 .f32 :=
  select (broadcastInDim S16384x16 ![0] bcast_S16384_S16384x16_0 (known X))
    (Host.gather gather_S1000000x16_S16384x1_S16384x16_1_0_n_n_0_1_116 A (rowNums X))
    (broadcastInDim S16384x16 ![] bcast_S_S16384x16 (constant S_ .f32 0x7FC00000#32))

/-- The first ids. -/
def ids0 (I : IVec S2x16384 32) : IVec S16384 32 :=
  shapeCast S16384 (extractStridedSlice S1x16384 ![0, 0] I slices_S2x16384_S1x16384_0_0) shapeCasts_S1x16384_S16384
/-- The second ids. -/
def ids1 (I : IVec S2x16384 32) : IVec S16384 32 :=
  shapeCast S16384 (extractStridedSlice S1x16384 ![1, 0] I slices_S2x16384_S1x16384_1_0) shapeCasts_S1x16384_S16384

/-- The plain program's result: the rows taken, multiplied, summed along the columns. -/
theorem res_eq (m : (ℓ : Loc nD τ sig) → Buf (Elt F) ℓ) (c : Dev nD) :
    Cert.ReferenceIdeal.Value.res_out0 m c
      = Host.reduceAdd (mulf (taken (m ((c.tc : Thread nD τ).loc main_arg1)) (ids0 (m ((c.tc : Thread nD τ).loc main_arg0))))
          (taken (m ((c.tc : Thread nD τ).loc main_arg2)) (ids1 (m ((c.tc : Thread nD τ).loc main_arg0)))))
        (constant S_ .f32 0x00000000#32) reducesTo_S16384x16_S16384_d1 h_S_ := rfl

/-- The element of a table at row `n` and column `r`. -/
def embIx (n r : ℕ) : S1000000x16.Idx
  | 0 => ⟨n % 1000000, Nat.mod_lt _ (by decide)⟩
  | 1 => ⟨r % 16, Nat.mod_lt _ (by decide)⟩

/-- A word below 1000000 is not negative, read as signed. -/
theorem not_neg {v : BitVec 32} (h : v.toNat < 1000000) : IntOp.cmpi .slt v 0#32 = 0#1 := by
  have e : v.slt 0#32 = false := by
    simp only [BitVec.slt_eq_decide, BitVec.toInt_eq_toNat_cond, BitVec.toNat_ofNat, decide_eq_false_iff_not]; omega
  show BitVec.ofBool (v.slt 0#32) = _
  rw [e]; rfl

/-- A word below 1000000 passes the test of the row numbers. -/
theorem passes {v : BitVec 32} (h : v.toNat < 1000000) : IntOp.andi (IntOp.cmpi .sge v 0#32) (IntOp.cmpi .sle v 999999#32) = 1#1 := by
  have e0 : (0#32 : BitVec 32).sle v = true := by
    simp only [BitVec.sle_eq_decide, BitVec.toInt_eq_toNat_cond, BitVec.toNat_ofNat, decide_eq_true_eq]; omega
  have e1 : v.sle 999999#32 = true := by
    simp only [BitVec.sle_eq_decide, BitVec.toInt_eq_toNat_cond, BitVec.toNat_ofNat, decide_eq_true_eq]; omega
  show IntOp.andi (BitVec.ofBool ((0#32 : BitVec 32).sle v)) (BitVec.ofBool (v.sle 999999#32)) = _
  rw [e0, e1]; rfl

section
variable {X : IVec S16384 32} (hX : ∀ j, (X j).toNat < 1000000)
include hX

/-- An id in range is its own row number. -/
theorem rowNums_apply (i : S16384x1.Idx) : rowNums X i = X (ValueIdx.ix1 (i 0)) := by
  have e : ∀ j, select (cmpi .slt X (broadcastInDim S16384 ![] bcast_S_S16384 (constantI S_ 32 0#32)))
      (addi X (broadcastInDim S16384 ![] bcast_S_S16384 (constantI S_ 32 1000000#32))) X j = X j := fun j => by
    show Scalar.select (IntOp.cmpi .slt (X j) 0#32) _ _ = _
    rw [not_neg (hX j)]; rfl
  unfold rowNums
  refine (e _).trans (congrArg X (funext fun a => ?_))
  match a with
  | 0 => rfl

/-- Every id in range names a row. -/
theorem known_apply (j : S16384.Idx) : known X j = 1#1 := by
  refine Host.reduce_andi_one _ _ _ _ _ rfl fun i => ?_
  show IntOp.andi (IntOp.cmpi .sge (rowNums X i) 0#32) (IntOp.cmpi .sle (rowNums X i) 999999#32) = 1#1
  rw [rowNums_apply hX]
  exact passes (hX _)

/-- The row of an id in range, at a column. -/
theorem taken_apply (A : FVec F S1000000x16 .f32) (c : Fin 16384) (r : Fin 16) :
    taken A X (ValueIdx.ix2 c r) = A (embIx (X (ValueIdx.ix1 c)).toNat r.val) := by
  have hb : (X (ValueIdx.ix1 c)).toNat < 1000000 := hX _
  have hk : broadcastInDim S16384x16 ![0] bcast_S16384_S16384x16_0 (known X) (ValueIdx.ix2 c r) = 1#1 := known_apply hX _
  have hs : taken A X (ValueIdx.ix2 c r)
      = Host.gather gather_S1000000x16_S16384x1_S16384x16_1_0_n_n_0_1_116 A (rowNums X) (ValueIdx.ix2 c r) := by
    unfold taken select
    rw [hk, ValueIdx.select_one]
  refine hs.trans ?_
  refine (Routing.gather_row gather_S1000000x16_S16384x1_S16384x16_1_0_n_n_0_1_116 rfl rfl rfl rfl rfl A (rowNums X) c r
    ⟨(X (ValueIdx.ix1 c)).toNat, hb⟩ ?_ (by norm_num)).trans (congrArg A (funext fun a => Fin.ext ?_))
  · rw [rowNums_apply hX]
    exact BitVec.eq_of_toNat_eq ((BitVec.toNat_ofNat _ _).trans (Nat.mod_eq_of_lt (X (ValueIdx.ix1 c)).isLt)).symm
  · match a with
    | 0 => exact (Nat.mod_eq_of_lt hb).symm
    | 1 => exact (Nat.mod_eq_of_lt r.isLt).symm

end

end Cert.Proof.Plain
-- ==== Proof.Equation.lean ====
/-
  The two results, equal at exact values: both are, for each pair of ids, the sum over the sixteen columns of the products of
  the two embeddings.
-/
module

public import proofs.«01_k».proof.Proof.Launch
public import proofs.«01_k».proof.Proof.Take
public import Idealize.ShloMosaic.Lib.Pointwise.Reduce
public import Idealize.ShloMosaic.PureOps.Ideal.Laws

@[expose] public section

noncomputable section

namespace Cert.Proof

open Idealize.ShloMosaic
open Cert.Proof.Lookup Cert.Proof.Plain
open Cert.KernelIdeal (S16384 S2x16384 S1000000x16 S125000x128)

/-- The sum over the sixteen columns of the products of two embeddings. -/
def dotAt (A B : S1000000x16.Idx → EReal) (a b : ℕ) : EReal := ∑ r : Fin 16, A (embIx a r.val) * B (embIx b r.val)

/-! ## The kernel's value -/

/-- A table read eight embeddings a row, at an embedding's row and column. -/
theorem wide_apply {α : Type} (A : S1000000x16.Idx → α) {n r : ℕ} (hn : n < 1000000) (hr : r < 16) :
    wide A (tabIx (n / 8) (n % 8 * 16 + r)) = A (embIx n r) := by
  refine shapeCast_apply A _ _ _ ?_
  rw [Shape.rowMajor_val_two, Shape.rowMajor_val_two]
  show n % 1000000 * 16 + r % 16 = n / 8 % 125000 * 128 + (n % 8 * 16 + r) % 128
  omega

/-- A sum made term by term from zero, as a sum. -/
theorem foldl_sum (f : BitVec 32 → EReal) (l : List (BitVec 32)) (v : EReal) : l.foldl (fun v w => v + f w) v = v + (l.map f).sum := by
  induction l generalizing v with
  | nil => simp
  | cons w l ih => rw [List.foldl_cons, ih, List.map_cons, List.sum_cons, add_assoc]

/-- The sixteen columns, in their order. -/
theorem columns_eq : columns = List.ofFn fun r : Fin 16 => BitVec.ofNat 32 r.val := rfl

/-- The kernel's sum of products at exact values. -/
theorem sumPairs_ideal (x y : BitVec 32 → EReal) :
    sumPairs (F := Ideal) x y = ∑ r : Fin 16, x (BitVec.ofNat 32 r.val) * y (BitVec.ofNat 32 r.val) := by
  have h : sumPairs (F := Ideal) x y = columns.foldl (fun v w => v + x w * y w) (Ideal.ofBits .f32 0x00000000#32) := rfl
  rw [h, foldl_sum (fun w => x w * y w), Ideal.ofBits_zero_f32, zero_add, columns_eq, List.map_ofFn, List.sum_ofFn]
  rfl

/-- The kernel's result at exact values. -/
theorem kernelVal_ideal {I : S2x16384.Idx → BitVec 32} (hI : ∀ j, (I j).toNat < 1000000) (A B : S1000000x16.Idx → EReal) (j : S16384.Idx) :
    kernelVal (F := Ideal) I A B j = dotAt A B (firstIds I j).toNat (secondIds I j).toNat := by
  have h1 := firstIds_lt hI j
  have h2 := secondIds_lt hI j
  unfold kernelVal lookupVal pairAt dotAt
  rw [sumPairs_ideal]
  refine Finset.sum_congr rfl fun r _ => ?_
  have hr : (BitVec.ofNat 32 r.val).toNat = r.val := by
    rw [BitVec.toNat_ofNat]; exact Nat.mod_eq_of_lt (lt_trans r.isLt (by decide))
  rw [rowsOf_toNat _ j h1, rowsOf_toNat _ j h2, hr]
  unfold firstCol
  rw [wide_apply A h1 r.isLt, wide_apply B h2 r.isLt]

/-! ## The plain program's value -/

/-- The plain program's result at exact values. -/
theorem res_ideal (m : (ℓ : Loc Cert.ReferenceIdeal.nD Cert.ReferenceIdeal.τ Cert.ReferenceIdeal.sig) → Buf (Elt Ideal) ℓ) (c : Dev Cert.ReferenceIdeal.nD)
    {I : S2x16384.Idx → BitVec 32} {A B : S1000000x16.Idx → EReal} (hI : ∀ j, (I j).toNat < 1000000)
    (h0 : m ((c.tc : Thread Cert.ReferenceIdeal.nD Cert.ReferenceIdeal.τ).loc Cert.ReferenceIdeal.main_arg0) = I)
    (h1 : m ((c.tc : Thread Cert.ReferenceIdeal.nD Cert.ReferenceIdeal.τ).loc Cert.ReferenceIdeal.main_arg1) = A)
    (h2 : m ((c.tc : Thread Cert.ReferenceIdeal.nD Cert.ReferenceIdeal.τ).loc Cert.ReferenceIdeal.main_arg2) = B) (j : S16384.Idx) :
    Cert.ReferenceIdeal.Value.res_out0 m c j = dotAt A B (firstIds I j).toNat (secondIds I j).toNat := by
  rw [res_eq, h0, h1, h2]
  refine (Ideal.hostReduceAdd_r2_a1 _ _ _ j).trans ?_
  refine (congrArg₂ (· + ·) Ideal.ofBits_zero_f32 (Finset.sum_congr rfl fun r _ => ?_)).trans (zero_add _)
  have e0 := taken_apply (F := Ideal) (X := ids0 I) (fun j => firstIds_lt hI j) A (j 0) r
  have e1 := taken_apply (F := Ideal) (X := ids1 I) (fun j => secondIds_lt hI j) B (j 0) r
  have f0 : ids0 I (ValueIdx.ix1 (j 0)) = firstIds I j := congrArg (firstIds I) (ValueIdx.eq_ix1 j).symm
  have f1 : ids1 I (ValueIdx.ix1 (j 0)) = secondIds I j := congrArg (secondIds I) (ValueIdx.eq_ix1 j).symm
  exact congrArg₂ (· * ·) (e0.trans (congrArg (fun v : BitVec 32 => A (embIx v.toNat r.val)) f0))
    (e1.trans (congrArg (fun v : BitVec 32 => B (embIx v.toNat r.val)) f1))

end Cert.Proof
-- ==== Proof.lean ====
/-
  The claims. The kernel's two frames are one run, proved over any float values; the plain program's run is its own list of
  operations; the value claim is the equation of the two results at exact values.
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Launch
public import proofs.«01_k».proof.Proof.Range
public import proofs.«01_k».proof.Proof.Equation
public import Idealize.ShloMosaic.Lib.Quiescent
public import proofs.«01_k».proof.Proof.Gen.Pre_in_range
public import Idealize.ShloMosaic.Adequacy
public import Idealize.ShloMosaic.Init

@[expose] public section

noncomputable section

namespace Cert.Proof

open Idealize.ShloMosaic Idealize.SL.Sem
open Cert.Proof.Lookup (run_main ids_lt finalOut)

/-- The kernel at machine words: from ids in range it ends with the arguments unchanged and the semaphores at zero. -/
theorem frame_kernel : Cert.quiescent_Kernel := fun m ρ hpre =>
  (θ_run Cert.KernelIdeal.defs _ _).mono (fun _ h => ⟨fun c => ⟨(h.1 c).1, (h.1 c).2.1, (h.1 c).2.2.1⟩, h.2⟩)
    (run_main (F := Bits) m ρ fun d => ids_lt (hpre d))

/-- The kernel at exact values, the same. -/
theorem frame_ideal : Cert.quiescent_KernelIdeal := fun m ρ hpre =>
  (θ_run Cert.KernelIdeal.defs _ _).mono (fun _ h => ⟨fun c => ⟨(h.1 c).1, (h.1 c).2.1, (h.1 c).2.2.1⟩, h.2⟩)
    (run_main (F := Ideal) m ρ fun d => ids_lt (hpre d))

/-- The plain program ends with the arguments unchanged, and it has no semaphore. -/
theorem frame_plain : Cert.quiescent_ReferenceIdeal := fun m ρ _ =>
  (θ_run Cert.ReferenceIdeal.defs _ _).mono (fun r h => ⟨fun c => (h c).2, sem_eq_zero_of_no_sems rfl r.2⟩)
    (Cert.ReferenceIdeal.Value.run (F := Ideal) m ρ)

/-- So it does from ids in range. -/
theorem frame_plain_range : Cert.quiescent_ReferenceIdeal_pre_in_range := fun m ρ _ => frame_plain m ρ trivial

/-- From the same arguments, ids in range, the kernel and the plain program end with the same result at exact values. -/
theorem value : Cert.algebraic_KernelIdeal_ReferenceIdeal := fun m ρ m' ρ' hpre hargs =>
  ⟨fun c => finalOut (F := Ideal) m c,
    (θ_run Cert.KernelIdeal.defs _ _).mono (fun _ h c => ⟨(h.1 c).2.2.2, (h.1 c).1, (h.1 c).2.1, (h.1 c).2.2.1⟩)
      (run_main (F := Ideal) m ρ fun d => ids_lt (hpre d)),
    (θ_run Cert.ReferenceIdeal.defs _ _).mono (fun _ h c => ⟨(h c).1.trans (funext fun j =>
        (res_ideal m' c (ids_lt (hpre c)) (hargs c).1 (hargs c).2.1 (hargs c).2.2 j).trans (kernelVal_ideal (ids_lt (hpre c)) _ _ j).symm), (h c).2⟩)
      (Cert.ReferenceIdeal.Value.run (F := Ideal) m' ρ')⟩

theorem claim : Cert.Claim := ⟨Cert.Kernel.Gen.facts, Cert.KernelIdeal.Gen.facts, Cert.ReferenceIdeal.Gen.facts, Cert.Pre_in_range.Gen.facts,
  frame_kernel, frame_ideal, frame_plain, frame_plain_range, trivial, value⟩

end Cert.Proof
